-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_KernelIdeal [hPre_usable_KernelIdeal : Cert.Pre_usable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_ReferenceIdeal [hPre_usable_ReferenceIdeal : Cert.Pre_usable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_usable_KernelIdeal [hKernelIdeal : Cert.KernelIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_usable_ReferenceIdeal [hReferenceIdeal : Cert.ReferenceIdeal.Facts] [hPre_usable_ReferenceIdeal : Cert.Pre_usable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_usable_KernelIdeal [hKernelIdeal : Cert.KernelIdeal.Facts] [hReferenceIdeal : Cert.ReferenceIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![8192, 2]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_usable_KernelIdeal : Cert.Pre_usable_KernelIdeal.Facts) (hPre_usable_ReferenceIdeal : Cert.Pre_usable_ReferenceIdeal.Facts),
    quiescent_Kernel (hKernel := hKernel)
    ∧ quiescent_KernelIdeal (hKernelIdeal := hKernelIdeal)
    ∧ quiescent_KernelIdeal_pre_usable_KernelIdeal (hKernelIdeal := hKernelIdeal) (hPre_usable_KernelIdeal := hPre_usable_KernelIdeal)
    ∧ quiescent_ReferenceIdeal (hReferenceIdeal := hReferenceIdeal)
    ∧ quiescent_ReferenceIdeal_pre_usable_ReferenceIdeal (hReferenceIdeal := hReferenceIdeal) (hPre_usable_ReferenceIdeal := hPre_usable_ReferenceIdeal)
    ∧ preserves_Kernel_KernelIdeal
    ∧ algebraic_KernelIdeal_ReferenceIdeal_pre_usable_KernelIdeal (hKernelIdeal := hKernelIdeal) (hReferenceIdeal := hReferenceIdeal) (hPre_usable_KernelIdeal := hPre_usable_KernelIdeal)
-- ==== Pre_usable_KernelIdeal.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S_ : Shape := ⟨0, ![]⟩

class Facts : Prop where
  bcast_S_S512x256 : S_.BroadcastsInDim S512x256 (![] : Fin 0 → Fin S512x256.rank)
  bcast_S_S256x32 : S_.BroadcastsInDim S256x32 (![] : Fin 0 → Fin S256x32.rank)
  bcast_S_S512x2 : S_.BroadcastsInDim S512x2 (![] : Fin 0 → Fin S512x2.rank)

variable [Facts]

def fn {F : FTy → Type} [FloatOps F] (main_arg0 : FVec F S512x256 .f32) (main_arg1 : FVec F S256x32 .f32) (main_arg2 : IVec S512x2 32) (main_arg3 : FVec F S2x256x512 .f32) : IVec S512x256 1 × IVec S256x32 1 × IVec S512x2 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x32 .f32 := Host.absf main_arg1
  let main_cst_0 : FVec F S_ .f32 := constant S_ .f32 0x7F800000#32
  let main_v4 : FVec F S256x32 .f32 := broadcastInDim S256x32 ![] bcast_S_S256x32 main_cst_0
  let main_v5 : IVec S256x32 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 32#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Pre_usable_ReferenceIdeal.lean ====
abbrev S8192x256 : Shape := ⟨2, ![8192, 256]⟩
abbrev S256x32 : Shape := ⟨2, ![256, 32]⟩
abbrev S8192x2 : Shape := ⟨2, ![8192, 2]⟩
abbrev S32x256x512 : Shape := ⟨3, ![32, 256, 512]⟩
abbrev S_ : Shape := ⟨0, ![]⟩

class Facts : Prop where
  bcast_S_S8192x256 : S_.BroadcastsInDim S8192x256 (![] : Fin 0 → Fin S8192x256.rank)
  bcast_S_S256x32 : S_.BroadcastsInDim S256x32 (![] : Fin 0 → Fin S256x32.rank)
  bcast_S_S8192x2 : S_.BroadcastsInDim S8192x2 (![] : Fin 0 → Fin S8192x2.rank)

variable [Facts]

def fn {F : FTy → Type} [FloatOps F] (main_arg0 : FVec F S8192x256 .f32) (main_arg1 : FVec F S256x32 .f32) (main_arg2 : IVec S8192x2 32) (main_arg3 : FVec F S32x256x512 .f32) : IVec S8192x256 1 × IVec S256x32 1 × IVec S8192x2 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S256x32 .f32 := Host.absf main_arg1
  let main_cst_0 : FVec F S_ .f32 := constant S_ .f32 0x7F800000#32
  let main_v4 : FVec F S256x32 .f32 := broadcastInDim S256x32 ![] bcast_S_S256x32 main_cst_0
  let main_v5 : IVec S256x32 1 := cmpf .olt main_v3 main_v4
  let main_c : IVec S_ 32 := constantI S_ 32 0#32
  let main_v6 : IVec S8192x2 32 := broadcastInDim S8192x2 ![] bcast_S_S8192x2 main_c
  let main_v7 : IVec S8192x2 1 := cmpi .sge main_arg2 main_v6
  let main_c_1 : IVec S_ 32 := constantI S_ 32 32#32
  let main_v8 : IVec S8192x2 32 := broadcastInDim S8192x2 ![] bcast_S_S8192x2 main_c_1
  let main_v9 : IVec S8192x2 1 := cmpi .slt main_arg2 main_v8
  let main_v10 : IVec S8192x2 1 := andi main_v7 main_v9
  (main_v2, main_v5, main_v10)
-- ==== Kernel.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S512x512 : Shape := ⟨2, ![512, 512]⟩
abbrev S2x2x256x256 : Shape := ⟨4, ![2, 2, 256, 256]⟩
abbrev S4x2x2x256x256 : Shape := ⟨5, ![4, 2, 2, 256, 256]⟩
abbrev S4x4 : Shape := ⟨2, ![4, 4]⟩
abbrev S_ : Shape := ⟨0, ![]⟩
abbrev S1x256x256 : Shape := ⟨3, ![1, 256, 256]⟩
abbrev S256x256 : Shape := ⟨2, ![256, 256]⟩
abbrev S1x1x256x256 : Shape := ⟨4, ![1, 1, 256, 256]⟩
abbrev S512x32 : Shape := ⟨2, ![512, 32]⟩
abbrev S512 : Shape := ⟨1, ![512]⟩
abbrev S512x1 : Shape := ⟨2, ![512, 1]⟩
abbrev S1x1 : Shape := ⟨2, ![1, 1]⟩
abbrev S1x1x1x256x256 : Shape := ⟨5, ![1, 1, 1, 256, 256]⟩
abbrev S1x2x256x256 : Shape := ⟨4, ![1, 2, 256, 256]⟩
abbrev S2x256x256 : Shape := ⟨3, ![2, 256, 256]⟩
abbrev S1x2x2x256x256 : Shape := ⟨5, ![1, 2, 2, 256, 256]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S2x2x256x256, .bf16⟩
  | .local _ .vmem, ⟨6, _⟩ => ⟨S4x2x2x256x256, .bf16⟩
  | .local _ .vmem, ⟨7, _⟩ => ⟨S4x2x2x256x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 3 69 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10 : BitVec 32 := 1#32
  let v13 : BitVec 32 := Scalar.muli v5 c1_i32_10
  let v14 : BitVec 32 := Scalar.addi c0_i32_11 v13
  v14.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_13 : BitVec 32 := 1#32
  let v15 : BitVec 32 := Scalar.muli v7 c1_i32_13
  let v16 : BitVec 32 := Scalar.addi c0_i32_14 v15
  v16.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_68 : BitVec 32 := 1#32
  let v78 : BitVec 32 := Scalar.muli v7 c1_i32_68
  let v79 : BitVec 32 := Scalar.addi c0_i32_69 v78
  v79.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_83 : BitVec 32 := 1#32
  let v88 : BitVec 32 := Scalar.muli v5 c1_i32_83
  let v89 : BitVec 32 := Scalar.addi c0_i32_84 v88
  v89.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_98 : BitVec 32 := 1#32
  let v98 : BitVec 32 := Scalar.muli v7 c1_i32_98
  let v99 : BitVec 32 := Scalar.addi c0_i32_99 v98
  v99.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_113 : BitVec 32 := 1#32
  let v108 : BitVec 32 := Scalar.muli v5 c1_i32_113
  let v109 : BitVec 32 := Scalar.addi c0_i32_114 v108
  v109.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_128 : BitVec 32 := 1#32
  let v118 : BitVec 32 := Scalar.muli v7 c1_i32_128
  let v119 : BitVec 32 := Scalar.addi c0_i32_129 v118
  v119.toNat
def k0_dev10 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_143 : BitVec 32 := 1#32
  let v128 : BitVec 32 := Scalar.muli v5 c1_i32_143
  let v129 : BitVec 32 := Scalar.addi c0_i32_144 v128
  v129.toNat
def k0_dev11 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_157 : BitVec 32 := 1#32
  let v138 : BitVec 32 := Scalar.muli v7 c1_i32_157
  let v139 : BitVec 32 := Scalar.addi c0_i32_158 v138
  v139.toNat
def k0_dev12 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_172 : BitVec 32 := 1#32
  let v148 : BitVec 32 := Scalar.muli v5 c1_i32_172
  let v149 : BitVec 32 := Scalar.addi c0_i32_173 v148
  v149.toNat
def k0_dev13 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_343 : BitVec 32 := 1#32
  let v256 : BitVec 32 := Scalar.muli v7 c1_i32_343
  let v257 : BitVec 32 := Scalar.addi c0_i32_344 v256
  v257.toNat
def k0_dev14 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_374 : BitVec 32 := 1#32
  let v274 : BitVec 32 := Scalar.muli v5 c1_i32_374
  let v275 : BitVec 32 := Scalar.addi c0_i32_375 v274
  v275.toNat
def k0_dev15 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_405 : BitVec 32 := 1#32
  let v292 : BitVec 32 := Scalar.muli v7 c1_i32_405
  let v293 : BitVec 32 := Scalar.addi c0_i32_406 v292
  v293.toNat
def k0_dev16 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_436 : BitVec 32 := 1#32
  let v310 : BitVec 32 := Scalar.muli v5 c1_i32_436
  let v311 : BitVec 32 := Scalar.addi c0_i32_437 v310
  v311.toNat
def k0_dev17 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_467 : BitVec 32 := 1#32
  let v328 : BitVec 32 := Scalar.muli v7 c1_i32_467
  let v329 : BitVec 32 := Scalar.addi c0_i32_468 v328
  v329.toNat
def k0_dev18 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_498 : BitVec 32 := 1#32
  let v346 : BitVec 32 := Scalar.muli v5 c1_i32_498
  let v347 : BitVec 32 := Scalar.addi c0_i32_499 v346
  v347.toNat
def k0_dev19 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_529 : BitVec 32 := 1#32
  let v364 : BitVec 32 := Scalar.muli v7 c1_i32_529
  let v365 : BitVec 32 := Scalar.addi c0_i32_530 v364
  v365.toNat
def k0_dev20 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_560 : BitVec 32 := 1#32
  let v382 : BitVec 32 := Scalar.muli v5 c1_i32_560
  let v383 : BitVec 32 := Scalar.addi c0_i32_561 v382
  v383.toNat
def k0_dev21 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_734 : BitVec 32 := 1#32
  let v533 : BitVec 32 := Scalar.muli v5 c1_i32_734
  let v534 : BitVec 32 := Scalar.addi c0_i32_735 v533
  v534.toNat
def k0_dev22 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_737 : BitVec 32 := 1#32
  let v535 : BitVec 32 := Scalar.muli v7 c1_i32_737
  let v536 : BitVec 32 := Scalar.addi c0_i32_738 v535
  v536.toNat
def k0_dev23 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_769 : BitVec 32 := 1#32
  let v545 : BitVec 32 := Scalar.muli v7 c1_i32_769
  let v546 : BitVec 32 := Scalar.addi c0_i32_770 v545
  v546.toNat
def k0_dev24 (d0 : Dev nD) : Nat :=
  let c0_i32_802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_801 : BitVec 32 := 1#32
  let v563 : BitVec 32 := Scalar.muli v5 c1_i32_801
  let v564 : BitVec 32 := Scalar.addi c0_i32_802 v563
  v564.toNat
def k0_dev25 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_833 : BitVec 32 := 1#32
  let v581 : BitVec 32 := Scalar.muli v7 c1_i32_833
  let v582 : BitVec 32 := Scalar.addi c0_i32_834 v581
  v582.toNat
def k0_dev26 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_865 : BitVec 32 := 1#32
  let v599 : BitVec 32 := Scalar.muli v5 c1_i32_865
  let v600 : BitVec 32 := Scalar.addi c0_i32_866 v599
  v600.toNat
def k0_dev27 (d0 : Dev nD) : Nat :=
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_897 : BitVec 32 := 1#32
  let v617 : BitVec 32 := Scalar.muli v7 c1_i32_897
  let v618 : BitVec 32 := Scalar.addi c0_i32_898 v617
  v618.toNat
def k0_dev28 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_929 : BitVec 32 := 1#32
  let v635 : BitVec 32 := Scalar.muli v5 c1_i32_929
  let v636 : BitVec 32 := Scalar.addi c0_i32_930 v635
  v636.toNat
def k0_dev29 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_961 : BitVec 32 := 1#32
  let v653 : BitVec 32 := Scalar.muli v7 c1_i32_961
  let v654 : BitVec 32 := Scalar.addi c0_i32_962 v653
  v654.toNat
def k0_dev30 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_993 : BitVec 32 := 1#32
  let v671 : BitVec 32 := Scalar.muli v5 c1_i32_993
  let v672 : BitVec 32 := Scalar.addi c0_i32_994 v671
  v672.toNat
def k0_dev31 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1167 : BitVec 32 := 1#32
  let v822 : BitVec 32 := Scalar.muli v5 c1_i32_1167
  let v823 : BitVec 32 := Scalar.addi c0_i32_1168 v822
  v823.toNat
def k0_dev32 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1170 : BitVec 32 := 1#32
  let v824 : BitVec 32 := Scalar.muli v7 c1_i32_1170
  let v825 : BitVec 32 := Scalar.addi c0_i32_1171 v824
  v825.toNat
def k0_dev33 (d0 : Dev nD) : Nat :=
  let c0_i32_1203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1202 : BitVec 32 := 1#32
  let v834 : BitVec 32 := Scalar.muli v7 c1_i32_1202
  let v835 : BitVec 32 := Scalar.addi c0_i32_1203 v834
  v835.toNat
def k0_dev34 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1234 : BitVec 32 := 1#32
  let v852 : BitVec 32 := Scalar.muli v5 c1_i32_1234
  let v853 : BitVec 32 := Scalar.addi c0_i32_1235 v852
  v853.toNat
def k0_dev35 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1266 : BitVec 32 := 1#32
  let v870 : BitVec 32 := Scalar.muli v7 c1_i32_1266
  let v871 : BitVec 32 := Scalar.addi c0_i32_1267 v870
  v871.toNat
def k0_dev36 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1298 : BitVec 32 := 1#32
  let v888 : BitVec 32 := Scalar.muli v5 c1_i32_1298
  let v889 : BitVec 32 := Scalar.addi c0_i32_1299 v888
  v889.toNat
def k0_dev37 (d0 : Dev nD) : Nat :=
  let c0_i32_1331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1330 : BitVec 32 := 1#32
  let v906 : BitVec 32 := Scalar.muli v7 c1_i32_1330
  let v907 : BitVec 32 := Scalar.addi c0_i32_1331 v906
  v907.toNat
def k0_dev38 (d0 : Dev nD) : Nat :=
  let c0_i32_1363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1362 : BitVec 32 := 1#32
  let v924 : BitVec 32 := Scalar.muli v5 c1_i32_1362
  let v925 : BitVec 32 := Scalar.addi c0_i32_1363 v924
  v925.toNat
def k0_dev39 (d0 : Dev nD) : Nat :=
  let c0_i32_1395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1394 : BitVec 32 := 1#32
  let v942 : BitVec 32 := Scalar.muli v7 c1_i32_1394
  let v943 : BitVec 32 := Scalar.addi c0_i32_1395 v942
  v943.toNat
def k0_dev40 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1426 : BitVec 32 := 1#32
  let v960 : BitVec 32 := Scalar.muli v5 c1_i32_1426
  let v961 : BitVec 32 := Scalar.addi c0_i32_1427 v960
  v961.toNat
def k0_dev41 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1599 : BitVec 32 := 1#32
  let v1111 : BitVec 32 := Scalar.muli v5 c1_i32_1599
  let v1112 : BitVec 32 := Scalar.addi c0_i32_1600 v1111
  v1112.toNat
def k0_dev42 (d0 : Dev nD) : Nat :=
  let c0_i32_1603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1602 : BitVec 32 := 1#32
  let v1113 : BitVec 32 := Scalar.muli v7 c1_i32_1602
  let v1114 : BitVec 32 := Scalar.addi c0_i32_1603 v1113
  v1114.toNat
def k0_dev43 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1634 : BitVec 32 := 1#32
  let v1123 : BitVec 32 := Scalar.muli v7 c1_i32_1634
  let v1124 : BitVec 32 := Scalar.addi c0_i32_1635 v1123
  v1124.toNat
def k0_dev44 (d0 : Dev nD) : Nat :=
  let c0_i32_1667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1666 : BitVec 32 := 1#32
  let v1141 : BitVec 32 := Scalar.muli v5 c1_i32_1666
  let v1142 : BitVec 32 := Scalar.addi c0_i32_1667 v1141
  v1142.toNat
def k0_dev45 (d0 : Dev nD) : Nat :=
  let c0_i32_1699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1698 : BitVec 32 := 1#32
  let v1159 : BitVec 32 := Scalar.muli v7 c1_i32_1698
  let v1160 : BitVec 32 := Scalar.addi c0_i32_1699 v1159
  v1160.toNat
def k0_dev46 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1730 : BitVec 32 := 1#32
  let v1177 : BitVec 32 := Scalar.muli v5 c1_i32_1730
  let v1178 : BitVec 32 := Scalar.addi c0_i32_1731 v1177
  v1178.toNat
def k0_dev47 (d0 : Dev nD) : Nat :=
  let c0_i32_1763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1762 : BitVec 32 := 1#32
  let v1195 : BitVec 32 := Scalar.muli v7 c1_i32_1762
  let v1196 : BitVec 32 := Scalar.addi c0_i32_1763 v1195
  v1196.toNat
def k0_dev48 (d0 : Dev nD) : Nat :=
  let c0_i32_1795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1794 : BitVec 32 := 1#32
  let v1213 : BitVec 32 := Scalar.muli v5 c1_i32_1794
  let v1214 : BitVec 32 := Scalar.addi c0_i32_1795 v1213
  v1214.toNat
def k0_dev49 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1826 : BitVec 32 := 1#32
  let v1231 : BitVec 32 := Scalar.muli v7 c1_i32_1826
  let v1232 : BitVec 32 := Scalar.addi c0_i32_1827 v1231
  v1232.toNat
def k0_dev50 (d0 : Dev nD) : Nat :=
  let c0_i32_1859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1858 : BitVec 32 := 1#32
  let v1249 : BitVec 32 := Scalar.muli v5 c1_i32_1858
  let v1250 : BitVec 32 := Scalar.addi c0_i32_1859 v1249
  v1250.toNat
def k0_dev51 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2031 : BitVec 32 := 1#32
  let v1400 : BitVec 32 := Scalar.muli v5 c1_i32_2031
  let v1401 : BitVec 32 := Scalar.addi c0_i32_2032 v1400
  v1401.toNat
def k0_dev52 (d0 : Dev nD) : Nat :=
  let c0_i32_2064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2063 : BitVec 32 := 1#32
  let v1410 : BitVec 32 := Scalar.muli v7 c1_i32_2063
  let v1411 : BitVec 32 := Scalar.addi c0_i32_2064 v1410
  v1411.toNat
def k0_dev53 (d0 : Dev nD) : Nat :=
  let c0_i32_2096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2095 : BitVec 32 := 1#32
  let v1428 : BitVec 32 := Scalar.muli v5 c1_i32_2095
  let v1429 : BitVec 32 := Scalar.addi c0_i32_2096 v1428
  v1429.toNat
def k0_dev54 (d0 : Dev nD) : Nat :=
  let c0_i32_2128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2127 : BitVec 32 := 1#32
  let v1446 : BitVec 32 := Scalar.muli v7 c1_i32_2127
  let v1447 : BitVec 32 := Scalar.addi c0_i32_2128 v1446
  v1447.toNat
def k0_dev55 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2159 : BitVec 32 := 1#32
  let v1464 : BitVec 32 := Scalar.muli v5 c1_i32_2159
  let v1465 : BitVec 32 := Scalar.addi c0_i32_2160 v1464
  v1465.toNat
def k0_dev56 (d0 : Dev nD) : Nat :=
  let c0_i32_2192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2191 : BitVec 32 := 1#32
  let v1482 : BitVec 32 := Scalar.muli v7 c1_i32_2191
  let v1483 : BitVec 32 := Scalar.addi c0_i32_2192 v1482
  v1483.toNat
def k0_dev57 (d0 : Dev nD) : Nat :=
  let c0_i32_2224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2223 : BitVec 32 := 1#32
  let v1500 : BitVec 32 := Scalar.muli v5 c1_i32_2223
  let v1501 : BitVec 32 := Scalar.addi c0_i32_2224 v1500
  v1501.toNat
def k0_dev58 (d0 : Dev nD) : Nat :=
  let c0_i32_2256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2255 : BitVec 32 := 1#32
  let v1518 : BitVec 32 := Scalar.muli v7 c1_i32_2255
  let v1519 : BitVec 32 := Scalar.addi c0_i32_2256 v1518
  v1519.toNat
def k0_dev59 (d0 : Dev nD) : Nat :=
  let c0_i32_2288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2287 : BitVec 32 := 1#32
  let v1536 : BitVec 32 := Scalar.muli v5 c1_i32_2287
  let v1537 : BitVec 32 := Scalar.addi c0_i32_2288 v1536
  v1537.toNat
def k0_dev60 (d0 : Dev nD) : Nat :=
  let c0_i32_2490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2489 : BitVec 32 := 1#32
  let v1695 : BitVec 32 := Scalar.muli v7 c1_i32_2489
  let v1696 : BitVec 32 := Scalar.addi c0_i32_2490 v1695
  v1696.toNat
def k0_dev61 (d0 : Dev nD) : Nat :=
  let c0_i32_2522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2521 : BitVec 32 := 1#32
  let v1713 : BitVec 32 := Scalar.muli v5 c1_i32_2521
  let v1714 : BitVec 32 := Scalar.addi c0_i32_2522 v1713
  v1714.toNat
def k0_dev62 (d0 : Dev nD) : Nat :=
  let c0_i32_2554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2553 : BitVec 32 := 1#32
  let v1731 : BitVec 32 := Scalar.muli v7 c1_i32_2553
  let v1732 : BitVec 32 := Scalar.addi c0_i32_2554 v1731
  v1732.toNat
def k0_dev63 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2585 : BitVec 32 := 1#32
  let v1749 : BitVec 32 := Scalar.muli v5 c1_i32_2585
  let v1750 : BitVec 32 := Scalar.addi c0_i32_2586 v1749
  v1750.toNat
def k0_dev64 (d0 : Dev nD) : Nat :=
  let c0_i32_2618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2617 : BitVec 32 := 1#32
  let v1767 : BitVec 32 := Scalar.muli v7 c1_i32_2617
  let v1768 : BitVec 32 := Scalar.addi c0_i32_2618 v1767
  v1768.toNat
def k0_dev65 (d0 : Dev nD) : Nat :=
  let c0_i32_2650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2649 : BitVec 32 := 1#32
  let v1785 : BitVec 32 := Scalar.muli v5 c1_i32_2649
  let v1786 : BitVec 32 := Scalar.addi c0_i32_2650 v1785
  v1786.toNat
def k0_dev66 (d0 : Dev nD) : Nat :=
  let c0_i32_2682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2681 : BitVec 32 := 1#32
  let v1803 : BitVec 32 := Scalar.muli v7 c1_i32_2681
  let v1804 : BitVec 32 := Scalar.addi c0_i32_2682 v1803
  v1804.toNat
def k0_dev67 (d0 : Dev nD) : Nat :=
  let c0_i32_2714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2713 : BitVec 32 := 1#32
  let v1821 : BitVec 32 := Scalar.muli v5 c1_i32_2713
  let v1822 : BitVec 32 := Scalar.addi c0_i32_2714 v1821
  v1822.toNat
def k0_dev68 (d0 : Dev nD) : Nat :=
  let c0_i32_2914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2913 : BitVec 32 := 1#32
  let v1980 : BitVec 32 := Scalar.muli v7 c1_i32_2913
  let v1981 : BitVec 32 := Scalar.addi c0_i32_2914 v1980
  v1981.toNat
def k0_dev69 (d0 : Dev nD) : Nat :=
  let c0_i32_2962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2961 : BitVec 32 := 1#32
  let v2006 : BitVec 32 := Scalar.muli v7 c1_i32_2961
  let v2007 : BitVec 32 := Scalar.addi c0_i32_2962 v2006
  v2007.toNat
def k0_dev70 (d0 : Dev nD) : Nat :=
  let c0_i32_3010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3009 : BitVec 32 := 1#32
  let v2032 : BitVec 32 := Scalar.muli v7 c1_i32_3009
  let v2033 : BitVec 32 := Scalar.addi c0_i32_3010 v2032
  v2033.toNat
def k0_dev71 (d0 : Dev nD) : Nat :=
  let c0_i32_3058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3057 : BitVec 32 := 1#32
  let v2058 : BitVec 32 := Scalar.muli v7 c1_i32_3057
  let v2059 : BitVec 32 := Scalar.addi c0_i32_3058 v2058
  v2059.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x2 : Shape := ⟨2, ![8192, 2]⟩
abbrev S32x256x512 : Shape := ⟨3, ![32, 256, 512]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S8192x256x512 : Shape := ⟨3, ![8192, 256, 512]⟩
abbrev S8192x512 : Shape := ⟨2, ![8192, 512]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x32, .f32⟩
  | .hbm, ⟨2, _⟩ => ⟨S8192x2, .i32⟩
  | .hbm, ⟨3, _⟩ => ⟨S32x256x512, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x32, .f32⟩
  | .hbm, ⟨15, _⟩ => ⟨S8192x32, .f32⟩
  | .hbm, ⟨16, _⟩ => ⟨S8192x2x1, .i32⟩
  | .hbm, ⟨17, _⟩ => ⟨S8192x2, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .i32⟩
  | .hbm, ⟨23, _⟩ => ⟨S8192, .i32⟩
  | .hbm, ⟨24, _⟩ => ⟨S8192x1, .i32⟩
  | .hbm, ⟨25, _⟩ => ⟨S8192x256x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x1, .f32⟩
  | .hbm, ⟨30, _⟩ => ⟨S8192x1, .i32⟩
  | .hbm, ⟨31, _⟩ => ⟨S8192, .i32⟩
  | .hbm, ⟨32, _⟩ => ⟨S8192x1, .i32⟩
  | .hbm, ⟨33, _⟩ => ⟨S8192x256x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Proof.Proto.lean ====
/-
# The ring's protocol

Sixteen devices stand in a ring. Each holds the weights of two experts, rounded to bf16 and cut into four chunks
(two column halves × two experts), and forwards them chunk by chunk both ways round: eight hops to the right
(direction `false`), seven to the left (direction `true`). Each direction owns a landing buffer of four slots, a
slot being four chunks; hop `h` lands in slot `h % 4` of the neighbour, from the own weights (`h = 0`) or from slot
`(h - 1) % 4`. Chunk `w` of hop `h` is numbered `4 * h + w`: every family below runs over these numbers.

* A send cell returns the share lent of the chunk's source; a receive cell hands over the landed chunk, whose
  contents are the weights of the device `h + 1` steps up the ring.
* The barrier's unit from a neighbour carries the neighbour's landing buffer for the direction towards it.
* The credit cell of a direction is raised four units at the start, then one unit whenever the receiver has freed a
  slot: the `k`-th such unit carries the witness that the first `k` slots were released, so that whichever units a
  wait has consumed, their number tells which slots are free.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Release
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## Ghost state -/

abbrev UB : Type := URounds (GSem nD τ sig) ℕ
abbrev KK : Type := Dev nD × Bool × ℕ
abbrev UU : Type := UR sig nD τ × (UB × USlots KK)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × USlots KK)).trans embR
def ES : Emb (USlots KK) (MT nD τ sig ℕ (Elt F) ℕ UU ℕ) := (Emb.inr : Emb (USlots KK) (UB × USlots KK)).trans embR
instance ER_landsIn : (ER : Emb UB 𝕄).LandsIn (upEmb : UEmb _ 𝕄) := by unfold ER; infer_instance
instance ES_landsIn : (ES : Emb (USlots KK) 𝕄).LandsIn (upEmb : UEmb _ 𝕄) := by unfold ES; infer_instance

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide

/-- The neighbour a direction sends to. -/
def nb : Bool → Dev nD → Dev nD | false => nxt | true => prv
theorem nb_nb (d : Bool) (c : Dev nD) : nb (!d) (nb d c) = c := by cases d; exact prv_nxt c; exact nxt_prv c
theorem nb_nb' (d : Bool) (c : Dev nD) : nb d (nb (!d) c) = c := by cases d; exact nxt_prv c; exact prv_nxt c
def ring (d : Bool) : Dev nD ≃ Dev nD := ⟨nb d, nb (!d), nb_nb d, nb_nb' d⟩

/-- Whose weights land in hop `h` of direction `d` on device `c`: the device `h + 1` steps up. -/
def origin (d : Bool) : ℕ → Dev nD → Dev nD | 0, c => nb (!d) c | h + 1, c => nb (!d) (origin d h c)
theorem origin_nb (d : Bool) (h : ℕ) (c : Dev nD) : origin d (h + 1) (nb d c) = origin d h c := by
  induction h with
  | zero => simp only [origin]; rw [nb_nb]
  | succ h ih => simp only [origin] at ih ⊢; rw [ih]

/-- The number of chunks a direction moves, and of slots it reuses. -/
abbrev T (d : Bool) : ℕ := if d then 28 else 32
abbrev C (d : Bool) : ℕ := if d then 3 else 4

/-! ## Semaphores and their cells -/

set_option backward.proofsInPublic true in
def sSem (d : Bool) (i : ℕ) : DmaSem sig := ⟨5 + (if d then 32 else 0) + i % 16, by show _ < 69; split <;> omega⟩
set_option backward.proofsInPublic true in
def rSem (d : Bool) (i : ℕ) : DmaSem sig := ⟨21 + (if d then 32 else 0) + i % 16, by show _ < 69; split <;> omega⟩
def cSem : Bool → Sem sig | false => cc0_scratch7.sem | true => cc0_scratch8.sem
abbrev bSem : Sem sig := (SemArray.scalar (sig.barrier 0 rfl) : Sems sig S_).sem

abbrev sCell (d : Bool) (i : ℕ) (c : Dev nD) : GSem nD τ sig := ((c : Thread nD τ), .dma (sSem d i))
abbrev rCell (d : Bool) (i : ℕ) (c : Dev nD) : GSem nD τ sig := ((c : Thread nD τ), .dma (rSem d i))
abbrev cCell (d : Bool) (c : Dev nD) : GSem nD τ sig := ((c : Thread nD τ), .reg (cSem d))
abbrev bCell (c : Dev nD) : GSem nD τ sig := ((c : Thread nD τ), .reg bSem)

theorem cSem_ne_bSem (d : Bool) : cSem d ≠ bSem := by cases d <;> decide

/-! ## Buffers and chunks -/

abbrev S4x5 : Shape := S4x2x2x256x256

/-- The landing buffer of a direction; the own weights rounded. -/
def cRef : Bool → Ref sig .tc | false => cc0_scratch1 | true => cc0_scratch2
def cM : Bool → Memref sig .tc .vmem S4x2x2x256x256 .bf16 | false => Memref.whole cc0_scratch1 | true => Memref.whole cc0_scratch2
abbrev wM : Memref sig .tc .vmem S2x2x256x256 .bf16 := Memref.whole cc0_scratch0
abbrev xM : Memref sig .tc .vmem S512x256 .f32 := Memref.whole cc0_stg0_0
abbrev gM : Memref sig .tc .vmem S256x32 .f32 := Memref.whole cc0_stg1_0
abbrev iM : Memref sig .tc .vmem S512x2 .i32 := Memref.whole cc0_stg2_0
abbrev eM : Memref sig .tc .vmem S2x256x512 .f32 := Memref.whole cc0_stg3_0
abbrev oM : Memref sig .tc .vmem S512x512 .f32 := Memref.whole cc0_stg4_0

theorem inb_chunk (i : ℕ) : ∀ a, (![i % 16 / 4, i % 4 / 2, i % 2, 0, 0] : Fin 5 → ℕ) a + S1x1x1x256x256.size a ≤ S4x2x2x256x256.size a := by
  intro a; fin_cases a
  · show i % 16 / 4 + 1 ≤ 4; omega
  · show i % 4 / 2 + 1 ≤ 2; omega
  · show i % 2 + 1 ≤ 2; omega
  · show 0 + 256 ≤ 256; omega
  · show 0 + 256 ≤ 256; omega
theorem inb_wchunk (i : ℕ) : ∀ a, (![i % 4 / 2, i % 2, 0, 0] : Fin 4 → ℕ) a + S1x1x256x256.size a ≤ S2x2x256x256.size a := by
  intro a; fin_cases a
  · show i % 4 / 2 + 1 ≤ 2; omega
  · show i % 2 + 1 ≤ 2; omega
  · show 0 + 256 ≤ 256; omega
  · show 0 + 256 ≤ 256; omega

/-- Chunk `i`'s rectangle in a landing buffer, and in the own weights. -/
abbrev cRect (i : ℕ) : Rect S4x2x2x256x256 := Rect.unit ![i % 16 / 4, i % 4 / 2, i % 2, 0, 0] S1x1x1x256x256.size (inb_chunk i)
abbrev wRect (i : ℕ) : Rect S2x2x256x256 := Rect.unit ![i % 4 / 2, i % 2, 0, 0] S1x1x256x256.size (inb_wchunk i)
def chunkM (d : Bool) (i : ℕ) : Memref sig .tc .vmem S256x256 .bf16 :=
  ((cM d).slice (cRect i) (fun _ => rfl)).squeeze S256x256 squeezes_S1x1x1x256x256_S256x256
def wchunkM (i : ℕ) : Memref sig .tc .vmem S256x256 .bf16 :=
  (wM.slice (wRect i) (fun _ => rfl)).squeeze S256x256 squeezes_S1x1x256x256_S256x256

/-- What send `i` reads. -/
def srcM (d : Bool) (i : ℕ) : Memref sig .tc .vmem S256x256 .bf16 := if i < 4 then wchunkM i else chunkM d (i - 4)

/-- The credit of one chunk. -/
abbrev N : ℕ := (chunkM false 0).view.dmaCredit
theorem N_pos : 0 < N := View.dmaCredit_pos _ (by decide)
theorem credit_chunk (d : Bool) (i : ℕ) : (chunkM d i).view.dmaCredit = N := by cases d <;> rfl
theorem credit_src (d : Bool) (i : ℕ) : (srcM d i).view.dmaCredit = N := by
  unfold srcM; split
  · rfl
  · exact credit_chunk d _

/-! ## Contents -/

/-- What the four inputs of one device hold. -/
structure Inp (F : FTy → Type) [FloatOps F] where
  x : (cc0_stg0_0 : Ref sig .tc).ty.Contents (Elt F)
  g : (cc0_stg1_0 : Ref sig .tc).ty.Contents (Elt F)
  i : (cc0_stg2_0 : Ref sig .tc).ty.Contents (Elt F)
  e : (cc0_stg3_0 : Ref sig .tc).ty.Contents (Elt F)

/-- Where the rounded weights' element at (half `j`, expert `e`, row, column) comes from. -/
def eIdx (j e r k : ℕ) : S2x256x512.Idx := fun a => match a with
  | ⟨0, _⟩ => ⟨e % 2, Nat.mod_lt _ (by decide)⟩
  | ⟨1, _⟩ => ⟨r % 256, Nat.mod_lt _ (by decide)⟩
  | ⟨2, _⟩ => ⟨(256 * j + k) % 512, Nat.mod_lt _ (by decide)⟩
  | ⟨_ + 3, h⟩ => absurd h (by show ¬ _ < 3; omega)

/-- One device's rounded weights, and one slot filled with them. -/
def wF (v : Inp F) : S2x2x256x256.Idx → Elt F .bf16 :=
  fun ix => truncf (s := S2x256x512) .bf16 v.e bitsLt_bf16_f32 (eIdx (ix 0) (ix 1) (ix 2) (ix 3))
def sF (v : Inp F) : S4x2x2x256x256.Idx → Elt F .bf16 := fun ix => wF v (fun a => ix a.succ)
def cF (d : Bool) (c : Dev nD) (v : Inp F) : Buf (Elt F) ((cM d).view.loc (c : Thread nD τ)) := match d with | false => sF v | true => sF v

/-- Chunk `w` of one device's rounded weights. -/
def cv (v : Inp F) (w : ℕ) : S256x256.Idx → Elt F .bf16 :=
  fun k => truncf (s := S2x256x512) .bf16 v.e bitsLt_bf16_f32 (eIdx (w % 4 / 2) (w % 2) (k 0) (k 1))

theorem drop3 {α : Type} (v : S1x1x1x256x256.Idx → α) (h : S1x1x1x256x256.ShapeCasts S256x256) (k : S256x256.Idx) :
    shapeCast S256x256 v h k = v (Fin.cons ⟨0, Nat.one_pos⟩ (Fin.cons ⟨0, Nat.one_pos⟩ (Fin.cons ⟨0, Nat.one_pos⟩ k))) := by
  refine shapeCast_apply v h k _ ?_
  show (Shape.rowMajorPi (Matrix.vecCons 1 (Matrix.vecCons 1 (Matrix.vecCons 1 ![256, 256]))) (Fin.cons ⟨0, Nat.one_pos⟩ (Fin.cons ⟨0, Nat.one_pos⟩ (Fin.cons ⟨0, Nat.one_pos⟩ k)))).val = (Shape.rowMajorPi ![256, 256] k).val
  rw [Shape.rowMajorPi_succ_val]
  show 0 * _ + (Shape.rowMajorPi (Matrix.vecCons 1 (Matrix.vecCons 1 ![256, 256])) (Fin.cons ⟨0, Nat.one_pos⟩ (Fin.cons ⟨0, Nat.one_pos⟩ k))).val = _
  rw [Shape.rowMajorPi_succ_val]
  show 0 * _ + (0 * _ + (Shape.rowMajorPi (Matrix.vecCons 1 ![256, 256]) (Fin.cons ⟨0, Nat.one_pos⟩ k)).val) = _
  rw [Shape.rowMajorPi_succ_val]
  show 0 * _ + (0 * _ + (0 * _ + (Shape.rowMajorPi ![256, 256] k).val)) = _
  simp

theorem drop2 {α : Type} (v : S1x1x256x256.Idx → α) (h : S1x1x256x256.ShapeCasts S256x256) (k : S256x256.Idx) :
    shapeCast S256x256 v h k = v (Fin.cons ⟨0, Nat.one_pos⟩ (Fin.cons ⟨0, Nat.one_pos⟩ k)) := by
  refine shapeCast_apply v h k _ ?_
  show (Shape.rowMajorPi (Matrix.vecCons 1 (Matrix.vecCons 1 ![256, 256])) (Fin.cons ⟨0, Nat.one_pos⟩ (Fin.cons ⟨0, Nat.one_pos⟩ k))).val = (Shape.rowMajorPi ![256, 256] k).val
  rw [Shape.rowMajorPi_succ_val]
  show 0 * _ + (Shape.rowMajorPi (Matrix.vecCons 1 ![256, 256]) (Fin.cons ⟨0, Nat.one_pos⟩ k)).val = _
  rw [Shape.rowMajorPi_succ_val]
  show 0 * _ + (0 * _ + (Shape.rowMajorPi ![256, 256] k).val) = _
  simp

theorem wF_eq (v : Inp F) (w : ℕ) (k : S256x256.Idx) (ix : S2x2x256x256.Idx) (h0 : (ix 0 : ℕ) = w % 4 / 2) (h1 : (ix 1 : ℕ) = w % 2)
    (h2 : (ix 2 : ℕ) = k 0) (h3 : (ix 3 : ℕ) = k 1) : wF v ix = cv v w k := by
  unfold wF cv; rw [h0, h1, h2, h3]

theorem emb_unit_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

theorem read_chunk (d : Bool) (i : ℕ) (c : Dev nD) (v : Inp F) : (chunkM d i).view.read (Elt F) (cF d c v) = cv v i := by
  have h : ∀ f : S4x2x2x256x256.Idx → Elt F .bf16, f = sF v →
      shapeCast (s := S1x1x1x256x256) S256x256 (fun x => f ((cRect i).emb x)) (by decide) = cv v i := by
    intro f hf; subst hf
    funext k
    rw [drop3]
    unfold sF
    refine wF_eq v i k _ ?_ ?_ ?_ ?_
    · exact (emb_unit_val (s := S4x2x2x256x256) ![i % 16 / 4, i % 4 / 2, i % 2, 0, 0] _ (inb_chunk i) _ 1).trans (by show i % 4 / 2 + 0 = _; omega)
    · exact (emb_unit_val (s := S4x2x2x256x256) ![i % 16 / 4, i % 4 / 2, i % 2, 0, 0] _ (inb_chunk i) _ 2).trans (by show i % 2 + 0 = _; omega)
    · exact (emb_unit_val (s := S4x2x2x256x256) ![i % 16 / 4, i % 4 / 2, i % 2, 0, 0] _ (inb_chunk i) _ 3).trans (by show 0 + (k 0 : ℕ) = _; omega)
    · exact (emb_unit_val (s := S4x2x2x256x256) ![i % 16 / 4, i % 4 / 2, i % 2, 0, 0] _ (inb_chunk i) _ 4).trans (by show 0 + (k 1 : ℕ) = _; omega)
  cases d
  · exact h _ rfl
  · exact h _ rfl
theorem read_wchunk (i : ℕ) (v : Inp F) : (wchunkM i).view.read (Elt F) (wF v) = cv v i := by
  have h : ∀ f : S2x2x256x256.Idx → Elt F .bf16, f = wF v →
      shapeCast (s := S1x1x256x256) S256x256 (fun x => f ((wRect i).emb x)) (by decide) = cv v i := by
    intro f hf; subst hf
    funext k
    rw [drop2]
    refine wF_eq v i k _ ?_ ?_ ?_ ?_
    · exact (emb_unit_val (s := S2x2x256x256) ![i % 4 / 2, i % 2, 0, 0] _ (inb_wchunk i) _ 0).trans (by show i % 4 / 2 + 0 = _; omega)
    · exact (emb_unit_val (s := S2x2x256x256) ![i % 4 / 2, i % 2, 0, 0] _ (inb_wchunk i) _ 1).trans (by show i % 2 + 0 = _; omega)
    · exact (emb_unit_val (s := S2x2x256x256) ![i % 4 / 2, i % 2, 0, 0] _ (inb_wchunk i) _ 2).trans (by show 0 + (k 0 : ℕ) = _; omega)
    · exact (emb_unit_val (s := S2x2x256x256) ![i % 4 / 2, i % 2, 0, 0] _ (inb_wchunk i) _ 3).trans (by show 0 + (k 1 : ℕ) = _; omega)
  exact h _ rfl

/-! ## The chunks' elements -/

theorem mem_chunk (i : ℕ) (ix : S4x2x2x256x256.Idx) :
    ix ∈ (cRect i).set ↔ (ix 0 : ℕ) = i % 16 / 4 ∧ (ix 1 : ℕ) = i % 4 / 2 ∧ (ix 2 : ℕ) = i % 2 := by
  rw [Rect.mem_set_unit]
  constructor
  · intro h
    have h0 := h (0 : Fin 5); have h1 := h (1 : Fin 5); have h2 := h (2 : Fin 5)
    change i % 16 / 4 ≤ (ix 0 : ℕ) ∧ (ix 0 : ℕ) < i % 16 / 4 + 1 at h0
    change i % 4 / 2 ≤ (ix 1 : ℕ) ∧ (ix 1 : ℕ) < i % 4 / 2 + 1 at h1
    change i % 2 ≤ (ix 2 : ℕ) ∧ (ix 2 : ℕ) < i % 2 + 1 at h2
    omega
  · rintro ⟨h0, h1, h2⟩ a
    fin_cases a
    · show i % 16 / 4 ≤ (ix 0 : ℕ) ∧ (ix 0 : ℕ) < i % 16 / 4 + 1; omega
    · show i % 4 / 2 ≤ (ix 1 : ℕ) ∧ (ix 1 : ℕ) < i % 4 / 2 + 1; omega
    · show i % 2 ≤ (ix 2 : ℕ) ∧ (ix 2 : ℕ) < i % 2 + 1; omega
    · have := (ix 3).isLt; show 0 ≤ (ix 3 : ℕ) ∧ (ix 3 : ℕ) < 0 + 256; exact ⟨Nat.zero_le _, by simpa using this⟩
    · have := (ix 4).isLt; show 0 ≤ (ix 4 : ℕ) ∧ (ix 4 : ℕ) < 0 + 256; exact ⟨Nat.zero_le _, by simpa using this⟩
theorem mem_wchunk (i : ℕ) (ix : S2x2x256x256.Idx) :
    ix ∈ (wRect i).set ↔ (ix 0 : ℕ) = i % 4 / 2 ∧ (ix 1 : ℕ) = i % 2 := by
  rw [Rect.mem_set_unit]
  constructor
  · intro h
    have h0 := h (0 : Fin 4); have h1 := h (1 : Fin 4)
    change i % 4 / 2 ≤ (ix 0 : ℕ) ∧ (ix 0 : ℕ) < i % 4 / 2 + 1 at h0
    change i % 2 ≤ (ix 1 : ℕ) ∧ (ix 1 : ℕ) < i % 2 + 1 at h1
    omega
  · rintro ⟨h0, h1⟩ a
    fin_cases a
    · show i % 4 / 2 ≤ (ix 0 : ℕ) ∧ (ix 0 : ℕ) < i % 4 / 2 + 1; omega
    · show i % 2 ≤ (ix 1 : ℕ) ∧ (ix 1 : ℕ) < i % 2 + 1; omega
    · have := (ix 2).isLt; show 0 ≤ (ix 2 : ℕ) ∧ (ix 2 : ℕ) < 0 + 256; exact ⟨Nat.zero_le _, by simpa using this⟩
    · have := (ix 3).isLt; show 0 ≤ (ix 3 : ℕ) ∧ (ix 3 : ℕ) < 0 + 256; exact ⟨Nat.zero_le _, by simpa using this⟩

/-- A chunk's elements in the landing buffer of a direction on device `c`. -/
abbrev cLoc (d : Bool) (c : Dev nD) : Loc nD τ sig := (cM d).view.loc (c : Thread nD τ)
abbrev cBuf (F : FTy → Type) (d : Bool) (c : Dev nD) : Type := Buf (Elt F) (cLoc d c)
def cSet (d : Bool) (i : ℕ) (c : Dev nD) : Finset (Idx (cLoc d c)) := (chunkM d i).view.set
abbrev wLoc (c : Dev nD) : Loc nD τ sig := wM.view.loc (c : Thread nD τ)
def wSet (i : ℕ) (c : Dev nD) : Finset (Idx (wLoc c)) := (wchunkM i).view.set

theorem cSet_false (i : ℕ) (c : Dev nD) : cSet false i c = (cRect i).set := (View.set_reshape _ _).trans (View.set_slice_whole _ _)
theorem cSet_true (i : ℕ) (c : Dev nD) : cSet true i c = (cRect i).set := (View.set_reshape _ _).trans (View.set_slice_whole _ _)
theorem wSet_eq (i : ℕ) (c : Dev nD) : wSet i c = (wRect i).set := (View.set_reshape _ _).trans (View.set_slice_whole _ _)

theorem cSet_disjoint (d : Bool) (c : Dev nD) {i j : ℕ} (h : i % 16 ≠ j % 16) : Disjoint (cSet d i c) (cSet d j c) := by
  have key : Disjoint (cRect i).set (cRect j).set := by
    rw [Finset.disjoint_left]; intro ix h1 h2
    rw [mem_chunk] at h1 h2; omega
  cases d
  · rw [cSet_false, cSet_false]; exact key
  · rw [cSet_true, cSet_true]; exact key
theorem wSet_disjoint (c : Dev nD) {i j : ℕ} (h : i % 4 ≠ j % 4) : Disjoint (wSet i c) (wSet j c) := by
  rw [wSet_eq, wSet_eq, Finset.disjoint_left]; intro ix h1 h2
  rw [mem_wchunk] at h1 h2; omega

/-- Sixteen chunks fill a landing buffer; the four from `4 * s` hold slot `s`; four fill the own weights. -/
theorem cSet_univ (d : Bool) (c : Dev nD) (a : ℕ) : (Finset.Ico a (a + 16)).biUnion (fun i => cSet d i c) = Finset.univ := by
  have key : ∀ ix : S4x2x2x256x256.Idx, ∃ i ∈ Finset.Ico a (a + 16), ix ∈ (cRect i).set := by
    intro ix
    have h0 : (ix 0 : ℕ) < 4 := (ix 0).isLt
    have h1 : (ix 1 : ℕ) < 2 := (ix 1).isLt
    have h2 : (ix 2 : ℕ) < 2 := (ix 2).isLt
    refine ⟨a + (4 * (ix 0 : ℕ) + 2 * (ix 1 : ℕ) + (ix 2 : ℕ) + 16 - a % 16) % 16, ?_, ?_⟩
    · rw [Finset.mem_Ico]; omega
    · rw [mem_chunk]; omega
  refine Finset.eq_univ_iff_forall.mpr fun ix => Finset.mem_biUnion.mpr ?_
  cases d
  · obtain ⟨i, hi, h⟩ := key ix; exact ⟨i, hi, by rw [cSet_false]; exact h⟩
  · obtain ⟨i, hi, h⟩ := key ix; exact ⟨i, hi, by rw [cSet_true]; exact h⟩
theorem wSet_univ (c : Dev nD) : (Finset.range 4).biUnion (fun i => wSet i c) = Finset.univ := by
  refine Finset.eq_univ_iff_forall.mpr fun (ix : S2x2x256x256.Idx) => Finset.mem_biUnion.mpr ?_
  have h1 : (ix 0 : ℕ) < 2 := (ix 0).isLt
  have h2 : (ix 1 : ℕ) < 2 := (ix 1).isLt
  refine ⟨2 * (ix 0 : ℕ) + (ix 1 : ℕ), ?_, ?_⟩
  · rw [Finset.mem_range]; omega
  · rw [wSet_eq, mem_wchunk]; omega

theorem inb_slot (s : ℕ) (hs : s < 4) : ∀ a, (![s, 0, 0, 0, 0] : Fin 5 → ℕ) a + S1x2x2x256x256.size a ≤ S4x2x2x256x256.size a := by
  intro a; fin_cases a
  · show s + 1 ≤ 4; omega
  · show 0 + 2 ≤ 2; omega
  · show 0 + 2 ≤ 2; omega
  · show 0 + 256 ≤ 256; omega
  · show 0 + 256 ≤ 256; omega
abbrev sRect (s : ℕ) (hs : s < 4) : Rect S4x2x2x256x256 := Rect.unit ![s, 0, 0, 0, 0] S1x2x2x256x256.size (inb_slot s hs)

theorem slot_subset (d : Bool) (c : Dev nD) (h : ℕ) (hs : h % 4 < 4) :
    (cM d).view.setOn (sRect (h % 4) hs).toLoadRect.set ⊆ (Finset.Ico (4 * h) (4 * h + 4)).biUnion (fun i => cSet d i c) := by
  have key : ∀ ix : S4x2x2x256x256.Idx, ix ∈ (sRect (h % 4) hs).set → ∃ i ∈ Finset.Ico (4 * h) (4 * h + 4), ix ∈ (cRect i).set := by
    intro ix hx
    rw [Rect.mem_set_unit] at hx
    have h0 := hx (0 : Fin 5)
    change h % 4 ≤ (ix 0 : ℕ) ∧ (ix 0 : ℕ) < h % 4 + 1 at h0
    have h1 : (ix 1 : ℕ) < 2 := (ix 1).isLt
    have h2 : (ix 2 : ℕ) < 2 := (ix 2).isLt
    refine ⟨4 * h + 2 * (ix 1 : ℕ) + (ix 2 : ℕ), ?_, ?_⟩
    · rw [Finset.mem_Ico]; omega
    · rw [mem_chunk]; omega
  cases d
  · intro ix hx
    have hx' : ix ∈ (sRect (h % 4) hs).set := by
      obtain ⟨y, hy, e⟩ := Finset.mem_map.mp hx
      have e' : y = ix := e
      subst e'; exact hy
    obtain ⟨i, hi, h⟩ := key ix hx'; exact Finset.mem_biUnion.mpr ⟨i, hi, by rw [cSet_false]; exact h⟩
  · intro ix hx
    have hx' : ix ∈ (sRect (h % 4) hs).set := by
      obtain ⟨y, hy, e⟩ := Finset.mem_map.mp hx
      have e' : y = ix := e
      subst e'; exact hy
    obtain ⟨i, hi, h⟩ := key ix hx'; exact Finset.mem_biUnion.mpr ⟨i, hi, by rw [cSet_true]; exact h⟩

/-! ## What is held of the chunks -/

section Pts
variable (V : Dev nD → Inp F)

/-- Chunk `i` of a landing buffer at a share, holding the weights of `v`; at whatever it holds. -/
def cPts (d : Bool) (i : ℕ) (c : Dev nD) (q : PosShare TreeShare) (v : Inp F) : sProp 𝕄 := cLoc d c ↦[cSet d i c]{q} cF d c v
def cAny (d : Bool) (i : ℕ) (c : Dev nD) : sProp 𝕄 := iprop(∃ f : cBuf F d c, cLoc d c ↦[cSet d i c]{fullShare} f)
def wPts (i : ℕ) (c : Dev nD) (q : PosShare TreeShare) (v : Inp F) : sProp 𝕄 := wLoc c ↦[wSet i c]{q} wF v

/-- The shares of the own weights: lent to the right sends, to the left ones, kept for the loads. -/
def wq (d : Bool) : PosShare TreeShare := if d then fullShare.right.left else fullShare.left
abbrev wk : PosShare TreeShare := fullShare.right.right

/-- What a send lends and its completion returns; what a landing hands over. -/
def srcPay (d : Bool) (i : ℕ) (c : Dev nD) : sProp 𝕄 :=
  if i < 4 then wPts i c (wq d) (V c) else cPts d (i - 4) c fullShare.left (V (origin d ((i - 4) / 4) c))
def rcvPay (d : Bool) (i : ℕ) (c : Dev nD) : sProp 𝕄 := cPts d i c fullShare (V (origin d (i / 4) c))
/-- Slot `s` of a landing buffer given back, its receive cells past their first landing. -/
def slotBack (k : KK) : sProp 𝕄 :=
  bigSep (Finset.Ico (4 * k.2.2) (4 * k.2.2 + 4)) fun j => iprop(cAny (F := F) k.2.1 j k.1 ∗ reached ER (rCell k.2.1 j k.1) 1)
def barPay (d : Bool) (c : Dev nD) : sProp 𝕄 := bigSep (Finset.range 16) fun j => cAny (F := F) d j (nb d c)
def credPay (d : Bool) (k : ℕ) (c : Dev nD) : sProp 𝕄 := bigSep (Finset.range k) fun s => released ES ((nb d c, d, s) : KK) 1

instance (d i c q v) : BI.Storable (upEmb : UEmb _ 𝕄) (cPts (F := F) d i c q v) := by unfold cPts; infer_instance
instance (d i c) : BI.Storable (upEmb : UEmb _ 𝕄) (cAny (F := F) d i c) := by unfold cAny; infer_instance
instance (i c q v) : BI.Storable (upEmb : UEmb _ 𝕄) (wPts (F := F) i c q v) := by unfold wPts; infer_instance
instance (d i c) : BI.Storable (upEmb : UEmb _ 𝕄) (srcPay V d i c) := by unfold srcPay; split <;> infer_instance
instance (d i c) : BI.Storable (upEmb : UEmb _ 𝕄) (rcvPay V d i c) := by unfold rcvPay; infer_instance
instance (k) : BI.Storable (upEmb : UEmb _ 𝕄) (slotBack (F := F) k) := by unfold slotBack; infer_instance
instance (d c) : BI.Storable (upEmb : UEmb _ 𝕄) (barPay (F := F) d c) := by unfold barPay; infer_instance
instance (d k c) : BI.Storable (upEmb : UEmb _ 𝕄) (credPay (F := F) d k c) := by unfold credPay; infer_instance
instance (d k c) : BI.Persistent (credPay (F := F) d k c) := by unfold credPay; infer_instance

/-! ## The schedule -/

def Rd : Rounds.Schedule (GSem nD τ sig) ℕ 𝕄 where
  duties g r := match g.2 with
    | .dma q => if 5 ≤ q.val ∧ 16 * r + (q.val - 5) % 16 < T (decide (32 ≤ q.val - 5)) then {0} else ∅
    | .reg q => if r = 0 then (if q = bSem then Finset.range 2 else if q = cSem false then Finset.range 5 else if q = cSem true then Finset.range 4 else ∅) else ∅
  unitless _ := False
  amount g _ k := match g.2 with
    | .dma _ => N
    | .reg q => if k = 0 ∧ q ≠ bSem then 4 else 1
  payload g r k := match g.2 with
    | .dma q => if (q.val - 5) / 16 % 2 = 0 then srcPay V (decide (32 ≤ q.val - 5)) (16 * r + (q.val - 5) % 16) g.1.1
        else rcvPay V (decide (32 ≤ q.val - 5)) (16 * r + (q.val - 5) % 16) g.1.1
    | .reg q => if q = bSem then barPay (decide (k = 1)) g.1.1 else if q = cSem false then credPay false k g.1.1 else credPay true k g.1.1
  amount_pos g r k _ := by
    rcases g with ⟨t, q | q⟩
    · dsimp only; split <;> decide
    · exact N_pos

instance Rd_storable (g : GSem nD τ sig) (r k : ℕ) : BI.Storable (upEmb : UEmb _ 𝕄) ((Rd V).payload g r k) := by
  rcases g with ⟨t, q | q⟩
  · show BI.Storable upEmb (if q = bSem then barPay (F := F) (decide (k = 1)) t.1 else if q = cSem false then credPay false k t.1 else credPay true k t.1)
    (repeat' split) <;> infer_instance
  · show BI.Storable upEmb (if (q.val - 5) / 16 % 2 = 0 then srcPay V (decide (32 ≤ q.val - 5)) (16 * r + (q.val - 5) % 16) t.1
        else rcvPay V (decide (32 ≤ q.val - 5)) (16 * r + (q.val - 5) % 16) t.1)
    split <;> infer_instance

section Eval
variable (d : Bool) (i : ℕ) (c : Dev nD)

theorem duties_s (h : i < T d) : (Rd V).duties (sCell d i c) (i / 16) = {0} := by
  have h5 : ((sSem d i).val : ℕ) = 5 + (if d then 32 else 0) + i % 16 := rfl
  show (if 5 ≤ (sSem d i).val ∧ 16 * (i / 16) + ((sSem d i).val - 5) % 16 < T (decide (32 ≤ (sSem d i).val - 5)) then ({0} : Finset ℕ) else ∅) = {0}
  rw [h5]
  refine if_pos ?_
  cases d
  · have : decide (32 ≤ 5 + (if false = true then 32 else 0) + i % 16 - 5) = false := decide_eq_false (by simp; omega)
    rw [this]; simp at h ⊢; omega
  · have : decide (32 ≤ 5 + (if true = true then 32 else 0) + i % 16 - 5) = true := decide_eq_true (by simp; omega)
    rw [this]; simp at h ⊢; omega
theorem duties_r (h : i < T d) : (Rd V).duties (rCell d i c) (i / 16) = {0} := by
  have h5 : ((rSem d i).val : ℕ) = 21 + (if d then 32 else 0) + i % 16 := rfl
  show (if 5 ≤ (rSem d i).val ∧ 16 * (i / 16) + ((rSem d i).val - 5) % 16 < T (decide (32 ≤ (rSem d i).val - 5)) then ({0} : Finset ℕ) else ∅) = {0}
  rw [h5]
  refine if_pos ?_
  cases d
  · have : decide (32 ≤ 21 + (if false = true then 32 else 0) + i % 16 - 5) = false := decide_eq_false (by simp; omega)
    rw [this]; simp at h ⊢; omega
  · have : decide (32 ≤ 21 + (if true = true then 32 else 0) + i % 16 - 5) = true := decide_eq_true (by simp; omega)
    rw [this]; simp at h ⊢; omega
/-- Past its last chunk a cell's rounds are empty. -/
theorem duties_dma_end (t : Thread nD τ) (q : DmaSem sig) (h : ∀ d, T d ≤ 16 * (2 : ℕ)) (r : ℕ) (hr : 2 ≤ r) : (Rd V).duties (t, .dma q) r = ∅ := by
  show (if 5 ≤ q.val ∧ 16 * r + (q.val - 5) % 16 < T (decide (32 ≤ q.val - 5)) then ({0} : Finset ℕ) else ∅) = ∅
  have := h (decide (32 ≤ q.val - 5))
  exact if_neg (by omega)
theorem duties_s_end (h : T d ≤ i) (r : ℕ) (hr : i / 16 ≤ r) : (Rd V).duties (sCell d i c) r = ∅ := by
  have h5 : ((sSem d i).val : ℕ) = 5 + (if d then 32 else 0) + i % 16 := rfl
  show (if 5 ≤ (sSem d i).val ∧ 16 * r + ((sSem d i).val - 5) % 16 < T (decide (32 ≤ (sSem d i).val - 5)) then ({0} : Finset ℕ) else ∅) = ∅
  rw [h5]
  refine if_neg ?_
  cases d
  · have : decide (32 ≤ 5 + (if false = true then 32 else 0) + i % 16 - 5) = false := decide_eq_false (by simp; omega)
    rw [this]; simp at h ⊢; omega
  · have : decide (32 ≤ 5 + (if true = true then 32 else 0) + i % 16 - 5) = true := decide_eq_true (by simp; omega)
    rw [this]; simp at h ⊢; omega
theorem duties_r_end (h : T d ≤ i) (r : ℕ) (hr : i / 16 ≤ r) : (Rd V).duties (rCell d i c) r = ∅ := by
  have h5 : ((rSem d i).val : ℕ) = 21 + (if d then 32 else 0) + i % 16 := rfl
  show (if 5 ≤ (rSem d i).val ∧ 16 * r + ((rSem d i).val - 5) % 16 < T (decide (32 ≤ (rSem d i).val - 5)) then ({0} : Finset ℕ) else ∅) = ∅
  rw [h5]
  refine if_neg ?_
  cases d
  · have : decide (32 ≤ 21 + (if false = true then 32 else 0) + i % 16 - 5) = false := decide_eq_false (by simp; omega)
    rw [this]; simp at h ⊢; omega
  · have : decide (32 ≤ 21 + (if true = true then 32 else 0) + i % 16 - 5) = true := decide_eq_true (by simp; omega)
    rw [this]; simp at h ⊢; omega
theorem amount_dma (t : Thread nD τ) (q : DmaSem sig) (r k : ℕ) : (Rd V).amount (t, .dma q) r k = N := rfl
theorem expect_s (h : i < T d) : (Rd V).expect (sCell d i c) (i / 16) = N := by
  unfold Schedule.expect Schedule.amountOf; rw [duties_s V d i c h, Finset.sum_singleton, amount_dma]
theorem expect_r (h : i < T d) : (Rd V).expect (rCell d i c) (i / 16) = N := by
  unfold Schedule.expect Schedule.amountOf; rw [duties_r V d i c h, Finset.sum_singleton, amount_dma]
theorem payload_s (k : ℕ) : (Rd V).payload (sCell d i c) (i / 16) k = srcPay V d i c := by
  have h5 : ((sSem d i).val : ℕ) = 5 + (if d then 32 else 0) + i % 16 := rfl
  show (if ((sSem d i).val - 5) / 16 % 2 = 0 then srcPay V (decide (32 ≤ (sSem d i).val - 5)) (16 * (i / 16) + ((sSem d i).val - 5) % 16) c else _) = _
  rw [h5]
  have e1 : 5 + (if d then 32 else 0) + i % 16 - 5 = (if d then 32 else 0) + i % 16 := by omega
  rw [e1, if_pos (by split <;> omega)]
  have e2 : decide (32 ≤ (if d then 32 else 0) + i % 16) = d := by cases d; exact decide_eq_false (by simp; omega); exact decide_eq_true (by simp)
  have e3 : 16 * (i / 16) + ((if d then 32 else 0) + i % 16) % 16 = i := by split <;> omega
  rw [e2, e3]
theorem payload_r (k : ℕ) : (Rd V).payload (rCell d i c) (i / 16) k = rcvPay V d i c := by
  have h5 : ((rSem d i).val : ℕ) = 21 + (if d then 32 else 0) + i % 16 := rfl
  show (if ((rSem d i).val - 5) / 16 % 2 = 0 then _ else rcvPay V (decide (32 ≤ (rSem d i).val - 5)) (16 * (i / 16) + ((rSem d i).val - 5) % 16) c) = _
  rw [h5]
  have e1 : 21 + (if d then 32 else 0) + i % 16 - 5 = 16 + (if d then 32 else 0) + i % 16 := by omega
  rw [e1, if_neg (by split <;> omega)]
  have e2 : decide (32 ≤ 16 + (if d then 32 else 0) + i % 16) = d := by cases d; exact decide_eq_false (by simp; omega); exact decide_eq_true (by simp; omega)
  have e3 : 16 * (i / 16) + (16 + (if d then 32 else 0) + i % 16) % 16 = i := by split <;> omega
  rw [e2, e3]

theorem duties_b : (Rd V).duties (bCell c) 0 = Finset.range 2 := rfl
theorem duties_c : (Rd V).duties (cCell d c) 0 = Finset.range (1 + C d) := by cases d <;> rfl
theorem duties_reg_end (t : Thread nD τ) (q : Sem sig) (r : ℕ) (hr : 1 ≤ r) : (Rd V).duties (t, .reg q) r = ∅ := by
  show (if r = 0 then _ else (∅ : Finset ℕ)) = ∅
  exact if_neg (by omega)
theorem amount_b (k : ℕ) : (Rd V).amount (bCell c) 0 k = 1 := if_neg (fun h => h.2 rfl)
theorem amount_c (k : ℕ) : (Rd V).amount (cCell d c) 0 k = if k = 0 then 4 else 1 := by
  show (if k = 0 ∧ cSem d ≠ bSem then 4 else 1) = _
  by_cases h : k = 0
  · rw [if_pos h, if_pos ⟨h, cSem_ne_bSem d⟩]
  · rw [if_neg h, if_neg fun h' => h h'.1]
theorem expect_b : (Rd V).expect (bCell c) 0 = 2 := rfl
theorem expect_c : (Rd V).expect (cCell d c) 0 = 4 + C d := by cases d <;> rfl
theorem payload_b (d : Bool) : (Rd V).payload (bCell c) 0 d.toNat = barPay d c := by cases d <;> rfl
theorem payload_c (k : ℕ) : (Rd V).payload (cCell d c) 0 k = credPay d k c := by cases d <;> rfl

end Eval
end Pts

/-! ## Levels -/

/-- A unit's level is the number it is tagged with: zero for what a device owes itself, one for the barrier, two for the
    first credits, `2 * h + 4` for a landing of hop `h`, `2 * k + 5` for the credit after the `k`-th freed slot. -/
def Lx (g : GSem nD τ sig) : Finset ℕ := if g.1.2 = .tc then Finset.range 64 else ∅
def lv (_ : GSem nD τ sig) (n : ℕ) : ℕ := n
theorem L_of_ne (g : GSem nD τ sig) (h : g.1.2 ≠ .tc) : Lx g = ∅ := if_neg h
theorem L_tc (c : Dev nD) (sm : SemLoc sig) : Lx ((c : Thread nD τ), sm) = Finset.range 64 := if_pos rfl

/-- A wait tagged `n` may be waited when everything owed is on a tensor core and tagged above `n`. -/
theorem mayWait_of (c : Dev nD) (sm : SemLoc sig) (n : ℕ) (hn : n < 64) (O : CellTallies nD τ sig ℕ)
    (hO : ∀ g u, 0 < O g u → g.1.2 = .tc ∧ n < u ∧ u < 64) : (levAts Lx lv : sProp 𝕄) ⊢ MayWait (c : Thread nD τ) sm n O :=
  MayOwe.of_cut (L := Lx) (lev := lv) n (fun p hp => by rw [Finset.mem_singleton.mp hp, L_tc]; exact Finset.mem_range.mpr hn)
    (fun g u hg => by obtain ⟨h1, _, h3⟩ := hO g u hg; unfold Lx; rw [if_pos h1]; exact Finset.mem_range.mpr h3)
    (fun p hp => by rw [Finset.mem_singleton.mp hp]; exact le_refl n)
    (fun g u hg => (hO g u hg).2.1)

end Cert.RingProof

end
-- ==== Proof.State.lean ====
/-
# The state between two operations

What device `c` holds of one direction after `ns` sends, `nr` landings waited for, `nw` send completions waited for, `nk`
credit units consumed and `nc` slots given back. Every family runs over chunk numbers (or credit numbers), so an
operation pops one member of some families and pushes one on others.
-/
module

public import proofs.«01_k».proof.Proof.Proto

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

set_option backward.proofsInPublic true in
/-- The cells the schedule runs: the 64 transfer cells, the two credit cells and the barrier of every device. -/
def cellSem (j : Fin 67) : SemLoc sig :=
  if h : j.val < 64 then .dma ⟨5 + j.val, by show _ < 69; omega⟩
  else if j.val = 64 then .reg (cSem false) else if j.val = 65 then .reg (cSem true) else .reg bSem
def kcell (x : Dev nD × Fin 67) : GSem nD τ sig := ((x.1 : Thread nD τ), cellSem x.2)

section Defs
variable (V : Dev nD → Inp F)

def CInv (g : GSem nD τ sig) : sProp 𝕄 := iprop(∃ κ : ℕ, cellInv ER (Rd V) κ g)
def SInv (k : KK) : sProp 𝕄 := iprop(∃ ι : ℕ, slotInv ES ι k (slotBack (F := F) k))
instance (g) : BI.Persistent (CInv V g) := by unfold CInv; infer_instance
instance (k) : BI.Persistent (SInv (F := F) k) := by unfold SInv; infer_instance

def keys : Finset KK := Finset.univ ×ˢ Finset.univ ×ˢ Finset.range 4

def Ctx : sProp 𝕄 :=
  iprop(bigSep Finset.univ (fun x : Dev nD × Fin 67 => CInv V (kcell x)) ∗ bigSep Finset.univ (fun x : Dev nD × Fin 67 => reached ER (kcell x) 0)
    ∗ bigSep keys (fun k => SInv (F := F) k) ∗ levAts Lx lv)
instance : BI.Persistent (Ctx V) := by unfold Ctx; infer_instance

/-! ## One direction -/

structure Cnt where
  (ns nr nw nk nc : ℕ)

/-- The tag of the `k`-th credit unit consumed. -/
def ctag (k : ℕ) : ℕ := if k < 4 then 2 else 2 * k - 1

abbrev E1 (d : Bool) (c : Dev nD) (i : ℕ) : sProp 𝕄 :=
  iprop(dutyTok ER (sCell d i c) (i / 16) 0 ∗ dutyTok ER (rCell d i (nb d c)) (i / 16) 0)
abbrev E2 (d : Bool) (c : Dev nD) (i : ℕ) : sProp 𝕄 := iprop(cAny (F := F) d i (nb d c) ∗ reached ER (rCell d i (nb d c)) (i / 16))
abbrev E5 (d : Bool) (c : Dev nD) (i : ℕ) : sProp 𝕄 :=
  iprop(cPts d i c fullShare.right (V (origin d (i / 4) c)) ∗ reached ER (rCell d i c) (i / 16 + 1))
abbrev E6 (d : Bool) (c : Dev nD) (i : ℕ) : sProp 𝕄 := cred (tallyAt (rCell d i c) (2 * (i / 4) + 4) N)
abbrev E7 (d : Bool) (c : Dev nD) (i : ℕ) : sProp 𝕄 := atPos ER (rCell d i c) (i / 16) ∅ 0
abbrev E8 (d : Bool) (c : Dev nD) (i : ℕ) : sProp 𝕄 := cred (tallyAt (sCell d i c) 0 N)
abbrev E9 (d : Bool) (c : Dev nD) (i : ℕ) : sProp 𝕄 := iprop(atPos ER (sCell d i c) (i / 16) ∅ 0 ∗ reached ER (sCell d i c) (i / 16))
abbrev E11 (d : Bool) (c : Dev nD) (k : ℕ) : sProp 𝕄 := cred (tallyAt (cCell d c) (ctag k) 1)
abbrev E12 (d : Bool) (c : Dev nD) (s : ℕ) : sProp 𝕄 := writeTok ES ((nb d c, d, s) : KK) 1
abbrev E13 (d : Bool) (c : Dev nD) (s : ℕ) : sProp 𝕄 := readerAt ES ((c, d, s) : KK) 0
abbrev E14 (d : Bool) (c : Dev nD) (k : ℕ) : sProp 𝕄 := dutyTok ER (cCell d (nb (!d) c)) 0 k
abbrev E15 (d : Bool) (c : Dev nD) (s : ℕ) : sProp 𝕄 := released ES ((c, d, s) : KK) 1

/-- The position on the own credit cell: some contributions consumed in part, or the round left behind. -/
def CPos (d : Bool) (c : Dev nD) (nk : ℕ) : sProp 𝕄 :=
  if nk < 4 + C d then
    iprop(∃ S : Finset ℕ, ⌜S ⊆ Finset.range (1 + C d) ∧ nk + (Finset.range (1 + C d) \ S).card ≤ 4 + C d⌝
      ∗ atPos ER (cCell d c) 0 S nk ∗ bigSep S fun k => credPay (F := F) d k c)
  else atPos ER (cCell d c) 1 ∅ 0

def Dir (c : Dev nD) (d : Bool) (a : Cnt) : sProp 𝕄 :=
  iprop(bigSep (Finset.Ico a.ns (T d)) (E1 d c)
    ∗ bigSep (Finset.Ico a.ns (max 16 (4 * a.nk))) (E2 d c)
    ∗ bigSep (Finset.Ico a.ns (a.nr + 4)) (fun i => srcPay V d i c)
    ∗ bigSep ((Finset.range a.nw).filter fun i => i < 4 ∨ 4 * a.nc + 4 ≤ i) (fun i => srcPay V d i c)
    ∗ bigSep (Finset.Ico (4 * a.nc) a.nr) (E5 V d c)
    ∗ bigSep (Finset.Ico a.nr (T d)) (E6 d c)
    ∗ bigSep (Finset.Ico a.nr (a.nr + 16)) (E7 d c)
    ∗ bigSep (Finset.Ico a.nw a.ns) (E8 d c)
    ∗ bigSep (Finset.Ico a.nw (a.nw + 16)) (E9 d c)
    ∗ CPos d c a.nk
    ∗ bigSep (Finset.Ico a.nk (4 + C d)) (E11 d c)
    ∗ bigSep (Finset.Ico (a.nk - 4) (C d)) (E12 d c)
    ∗ bigSep (Finset.Ico a.nc (C d)) (E13 d c)
    ∗ bigSep (Finset.Ico (a.nc + 1) (C d + 1)) (E14 d c)
    ∗ bigSep (Finset.range a.nc) (E15 d c))

/-- What the device still owes for one direction: its remaining sends' landings, its remaining credits. -/
def OD (c : Dev nD) (d : Bool) (a : Cnt) : CellTallies nD τ sig ℕ :=
  (∑ i ∈ Finset.Ico a.ns (T d), tallyAt (rCell d i (nb d c)) (2 * (i / 4) + 4) N)
    + ∑ k ∈ Finset.Ico (a.nc + 1) (C d + 1), tallyAt (cCell d (nb (!d) c)) (2 * k + 5) 1

/-- One direction beside everything else. -/
def DirO (c : Dev nD) (d : Bool) (a : Cnt) (O : CellTallies nD τ sig ℕ) (R : sProp 𝕄) : sProp 𝕄 :=
  iprop(Ctx V ∗ Dir V c d a ∗ (∃ W : Waits sig ℕ, owes (c : Thread nD τ) (OD c d a + O) W) ∗ R)

end Defs

/-! ## Cells and contexts -/

theorem sCell_eq (d : Bool) (i : ℕ) (c : Dev nD) : sCell d i c = kcell (c, ⟨(if d then 32 else 0) + i % 16, by split <;> omega⟩) := by
  unfold kcell cellSem; dsimp only
  rw [dif_pos (by split <;> omega)]
  refine Prod.ext rfl (congrArg SemLoc.dma (Fin.ext ?_))
  show 5 + (if d then 32 else 0) + i % 16 = 5 + ((if d then 32 else 0) + i % 16); omega
theorem rCell_eq (d : Bool) (i : ℕ) (c : Dev nD) : rCell d i c = kcell (c, ⟨16 + (if d then 32 else 0) + i % 16, by split <;> omega⟩) := by
  unfold kcell cellSem; dsimp only
  rw [dif_pos (by split <;> omega)]
  refine Prod.ext rfl (congrArg SemLoc.dma (Fin.ext ?_))
  show 21 + (if d then 32 else 0) + i % 16 = 5 + (16 + (if d then 32 else 0) + i % 16); omega
theorem cCell_eq (d : Bool) (c : Dev nD) : cCell d c = kcell (c, if d then 65 else 64) := by cases d <;> rfl
theorem bCell_eq (c : Dev nD) : bCell c = kcell (c, 66) := rfl

theorem bs_elim {I : Type} [DecidableEq I] {s : Finset I} {i : I} (hi : i ∈ s) (Φ : I → sProp 𝕄) : bigSep s Φ ⊢ Φ i := bigSep_elim hi

section CtxLemmas
variable (V : Dev nD → Inp F)

theorem ctx_cell (x : Dev nD × Fin 67) (g : GSem nD τ sig) (h : g = kcell x) : Ctx V ⊢ CInv V g := by
  subst h; unfold Ctx
  iintro ⟨H, -, -, -⟩
  iapply (bs_elim (Finset.mem_univ x) fun x : Dev nD × Fin 67 => CInv V (kcell x)) $$ H
theorem ctx_reached (x : Dev nD × Fin 67) (g : GSem nD τ sig) (h : g = kcell x) : Ctx V ⊢ reached ER g 0 := by
  subst h; unfold Ctx
  iintro ⟨-, H, -, -⟩
  iapply (bs_elim (Finset.mem_univ x) fun x : Dev nD × Fin 67 => (reached ER (kcell x) 0 : sProp 𝕄)) $$ H
theorem ctx_slot (k : KK) (h : k.2.2 < 4) : Ctx V ⊢ SInv (F := F) k := by
  unfold Ctx
  iintro ⟨-, -, H, -⟩
  iapply (bs_elim (s := keys) (i := k) (by unfold keys; simp [h]) fun k => SInv (F := F) k) $$ H
theorem ctx_wait (c : Dev nD) (sm : SemLoc sig) (n : ℕ) (hn : n < 64) (O : CellTallies nD τ sig ℕ)
    (hO : ∀ g u, 0 < O g u → g.1.2 = .tc ∧ n < u ∧ u < 64) : Ctx V ⊢ MayWait (c : Thread nD τ) sm n O := by
  refine BIBase.Entails.trans ?_ (mayWait_of c sm n hn O hO)
  unfold Ctx; iintro ⟨-, -, -, H⟩; iexact H

end CtxLemmas

/-! ## Levels of what is owed -/

theorem pos_add {A B : CellTallies nD τ sig ℕ} {g : GSem nD τ sig} {u : ℕ} (h : 0 < (A + B) g u) : 0 < A g u ∨ 0 < B g u := by
  rw [Pi.add_apply, Finsupp.add_apply] at h; omega
theorem pos_sum {s : Finset ℕ} {f : ℕ → CellTallies nD τ sig ℕ} {g : GSem nD τ sig} {u : ℕ} (h : 0 < (∑ i ∈ s, f i) g u) :
    ∃ i ∈ s, 0 < f i g u := by
  induction s using Finset.induction_on with
  | empty => rw [Finset.sum_empty] at h; exact absurd h (Nat.lt_irrefl 0)
  | insert a s ha ih =>
    rw [Finset.sum_insert ha] at h
    rcases pos_add h with h | h
    · exact ⟨a, Finset.mem_insert_self _ _, h⟩
    · obtain ⟨i, hi, h⟩ := ih h; exact ⟨i, Finset.mem_insert_of_mem hi, h⟩
theorem pos_tally {g g' : GSem nD τ sig} {n u k : ℕ} (h : 0 < (tallyAt g n k : CellTallies nD τ sig ℕ) g' u) : g' = g ∧ u = n := by
  rw [tallyAt_apply] at h; by_contra hc; rw [if_neg hc] at h; exact Nat.lt_irrefl 0 h

/-- Everything owed for a direction is tagged above `t`. -/
def above (d : Bool) (a : Cnt) (t : ℕ) : Prop := (T d ≤ a.ns ∨ t < 2 * (a.ns / 4) + 4) ∧ (C d ≤ a.nc ∨ t < 2 * (a.nc + 1) + 5)
instance (d a t) : Decidable (above d a t) := by unfold above; infer_instance
abbrev High (t : ℕ) (O : CellTallies nD τ sig ℕ) : Prop := ∀ g u, 0 < O g u → g.1.2 = .tc ∧ t < u ∧ u < 64

theorem high_OD {c : Dev nD} {d : Bool} {a : Cnt} {t : ℕ} (h : above d a t) : High t (OD c d a) := by
  intro g u hg
  have hT : T d ≤ 32 := by cases d <;> decide
  have hC : C d ≤ 4 := by cases d <;> decide
  rcases pos_add hg with hg | hg
  · obtain ⟨i, hi, hg⟩ := pos_sum hg
    obtain ⟨rfl, rfl⟩ := pos_tally hg
    rw [Finset.mem_Ico] at hi
    refine ⟨rfl, ?_, ?_⟩
    · rcases h.1 with h | h
      · omega
      · have : a.ns / 4 ≤ i / 4 := Nat.div_le_div_right hi.1
        omega
    · omega
  · obtain ⟨i, hi, hg⟩ := pos_sum hg
    obtain ⟨rfl, rfl⟩ := pos_tally hg
    rw [Finset.mem_Ico] at hi
    refine ⟨rfl, ?_, ?_⟩
    · rcases h.2 with h | h <;> omega
    · omega
theorem high_add {t : ℕ} {A B : CellTallies nD τ sig ℕ} (h : High t A) (h' : High t B) : High t (A + B) :=
  fun g u hg => (pos_add hg).elim (h g u) (h' g u)

theorem sum_pop (f : ℕ → CellTallies nD τ sig ℕ) {a b : ℕ} (h : a < b) : ∑ i ∈ Finset.Ico a b, f i = ∑ i ∈ Finset.Ico (a + 1) b, f i + f a := by
  rw [show Finset.Ico a b = insert a (Finset.Ico (a + 1) b) by ext x; simp only [Finset.mem_Ico, Finset.mem_insert]; omega,
    Finset.sum_insert (by rw [Finset.mem_Ico]; omega), add_comm]
theorem OD_send {c : Dev nD} {d : Bool} {a : Cnt} (h : a.ns < T d) :
    OD c d a = OD c d { a with ns := a.ns + 1 } + tallyAt (rCell d a.ns (nb d c)) (2 * (a.ns / 4) + 4) N := by
  unfold OD; dsimp only
  rw [sum_pop _ h, add_right_comm]
theorem OD_credit {c : Dev nD} {d : Bool} {a : Cnt} (h : a.nc < C d) :
    OD c d a = OD c d { a with nc := a.nc + 1 } + tallyAt (cCell d (nb (!d) c)) (2 * (a.nc + 1) + 5) 1 := by
  unfold OD; dsimp only
  rw [sum_pop _ (a := a.nc + 1) (by omega), ← add_assoc]

/-! ## Chunks repeat every sixteen -/

theorem chunkM_congr (d : Bool) {i j : ℕ} (h : i % 16 = j % 16) : chunkM d i = chunkM d j := by
  have key : ∀ (o o' : Fin 5 → ℕ) (ho) (ho'), o = o' →
      ((cM d).slice (Rect.unit (s := S4x2x2x256x256) o S1x1x1x256x256.size ho) (fun _ => rfl)).squeeze S256x256 squeezes_S1x1x1x256x256_S256x256
        = ((cM d).slice (Rect.unit (s := S4x2x2x256x256) o' S1x1x1x256x256.size ho') (fun _ => rfl)).squeeze S256x256 squeezes_S1x1x1x256x256_S256x256 := by
    intro o o' ho ho' e; subst e; rfl
  refine key _ _ (inb_chunk i) (inb_chunk j) ?_
  have e2 : i % 4 = j % 4 := by omega
  have e3 : i % 2 = j % 2 := by omega
  rw [h, e2, e3]
theorem cRect_set_congr {i j : ℕ} (h : i % 16 = j % 16) : (cRect i).set = (cRect j).set := by
  ext ix; rw [mem_chunk, mem_chunk]; omega
theorem cSet_congr (d : Bool) {i j : ℕ} (c : Dev nD) (h : i % 16 = j % 16) : cSet d i c = cSet d j c := by
  cases d
  · exact (cSet_false i c).trans ((cRect_set_congr h).trans (cSet_false j c).symm)
  · exact (cSet_true i c).trans ((cRect_set_congr h).trans (cSet_true j c).symm)
theorem cAny_add16 (d : Bool) (i : ℕ) (c : Dev nD) : cAny (F := F) d (i + 16) c = cAny d i c := by
  unfold cAny; rw [cSet_congr d c (by omega : (i + 16) % 16 = i % 16)]
theorem rSem_add16 (d : Bool) (i : ℕ) : rSem d (i + 16) = rSem d i := by
  unfold rSem; simp only [Nat.add_mod_right]
theorem sSem_add16 (d : Bool) (i : ℕ) : sSem d (i + 16) = sSem d i := by
  unfold sSem; simp only [Nat.add_mod_right]
theorem cv_add4 (v : Inp F) (i : ℕ) : cv v (i + 4) = cv v i := by
  unfold cv
  have e2 : (i + 4) % 4 = i % 4 := by omega
  have e3 : (i + 4) % 2 = i % 2 := by omega
  simp only [e2, e3]

end Cert.RingProof

end
-- ==== Proof.Steps.lean ====
/-
# One operation at a time

Each lemma takes one operation of the ring off the head of a program: the counters advance by one, and the claim is
left at the rest of the program. Every one is stated once, for a symbolic device, direction and chunk.
-/
module

public import proofs.«01_k».proof.Proof.State
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (V : Dev nD → Inp F) (c : Dev nD) (d : Bool) (a : Cnt) (O : CellTallies nD τ sig ℕ)

theorem bs_pop {x y : ℕ} (h : x < y) (A : ℕ → sProp 𝕄) : bigSep (Finset.Ico x y) A ⊢ iprop(A x ∗ bigSep (Finset.Ico (x + 1) y) A) :=
  Entails.of_eq (bigSep_Ico_succ_bot h A)
theorem bs_push {x y z : ℕ} (h : x ≤ y) (hz : z = y + 1) (A : ℕ → sProp 𝕄) : iprop(A y ∗ bigSep (Finset.Ico x y) A) ⊢ bigSep (Finset.Ico x z) A := by
  subst hz; exact Entails.of_eq (bigSep_Ico_succ_top h A).symm

theorem bs_split {x y z : ℕ} (hx : x ≤ y) (hy : y ≤ z) (A : ℕ → sProp 𝕄) :
    bigSep (Finset.Ico x z) A = iprop(bigSep (Finset.Ico x y) A ∗ bigSep (Finset.Ico y z) A) := by
  rw [← Finset.Ico_union_Ico_eq_Ico hx hy, bigSep_union (Finset.Ico_disjoint_Ico_consecutive x y z)]; rfl

theorem bs_sdiff {s t : Finset ℕ} (h : t ⊆ s) (A : ℕ → sProp 𝕄) : iprop(bigSep t A ∗ bigSep (s \ t) A) ⊢ bigSep s A :=
  Entails.of_eq (bigSep_sdiff_split h).symm

/-- What is known of one member, read off a family that keeps it. -/
theorem bs_peek {s : Finset ℕ} {i : ℕ} (hi : i ∈ s) (A B : ℕ → sProp 𝕄) [∀ i, BI.Persistent (B i)] :
    bigSep s (fun i => iprop(A i ∗ B i)) ⊢ iprop(bigSep s (fun i => iprop(A i ∗ B i)) ∗ B i) := by
  have e : bigSep s (fun i => iprop(A i ∗ B i)) = iprop((A i ∗ B i) ∗ bigSep (s.erase i) fun i => iprop(A i ∗ B i)) := bigSep_erase hi
  rw [e]
  iintro ⟨⟨HA, #HB⟩, H⟩
  iframe HA H HB

/-! ## Sends -/

/-- What a send reads: its lent share as a points-to, and the chunk it holds. -/
theorem src_view (i : ℕ) : ∃ (q : PosShare TreeShare) (fs : Buf (Elt F) ((srcM d i).view.loc (c : Thread nD τ))),
    srcPay V d i c = ((srcM d i).view.loc (c : Thread nD τ) ↦[(srcM d i).view.set]{q} fs)
      ∧ (srcM d i).view.read (Elt F) fs = cv (V (origin d (i / 4) (nb d c))) i := by
  by_cases h : i < 4
  · have e : srcM d i = wchunkM i := if_pos h
    rw [e]
    refine ⟨wq d, wF (V c), ?_, ?_⟩
    · unfold srcPay; rw [if_pos h]; rfl
    · rw [read_wchunk, show i / 4 = 0 by omega]
      show _ = cv (V (nb (!d) (nb d c))) i
      rw [nb_nb]
  · have e : srcM d i = chunkM d (i - 4) := if_neg h
    have e1 : chunkM d (i - 4) = chunkM d (i - 4) := rfl
    rw [e]
    obtain ⟨j, rfl⟩ : ∃ j, i = j + 4 := ⟨i - 4, by omega⟩
    have e2 : (j + 4) / 4 = j / 4 + 1 := by omega
    cases d
    · refine ⟨fullShare.left, cF false c (V (origin false (j / 4) c)), ?_, ?_⟩
      · unfold srcPay; rw [if_neg h]; rfl
      · rw [e2, origin_nb, cv_add4]; exact read_chunk false j c _
    · refine ⟨fullShare.left, cF true c (V (origin true (j / 4) c)), ?_, ?_⟩
      · unfold srcPay; rw [if_neg h]; rfl
      · rw [e2, origin_nb, cv_add4]; exact read_chunk true j c _

theorem landed_eq {s : Shape} {e : EltTy} (t : Thread nD τ) (v : View sig t.2.kind .vmem s e) (q : PosShare TreeShare) (w : s.Idx → Elt F e)
    (g fd : Buf (Elt F) (v.loc t)) (h : v.read (Elt F) g = w) :
    (v.loc t ↦[v.set]{q} v.write (Elt F) fd w Finset.univ : sProp 𝕄) = (v.loc t ↦[v.set]{q} g) := by
  subst h
  rw [View.write_read_eq_piecewise]
  exact pointsTo_congr fun x hx => Finset.piecewise_eq_of_mem _ _ _ hx

/-- A landed chunk holds what was read, whatever was there. -/
theorem landed (i : ℕ) (v : Inp F) (fd : Buf (Elt F) ((chunkM d i).view.loc (c : Thread nD τ))) :
    ((chunkM d i).view.loc (c : Thread nD τ) ↦[(chunkM d i).view.set]{fullShare} (chunkM d i).view.write (Elt F) fd (cv v i) Finset.univ)
      ⊢ cPts d i c fullShare v := by
  cases d
  · exact Entails.of_eq (landed_eq (c : Thread nD τ) (chunkM false i).view fullShare (cv v i) (cF false c v) fd (read_chunk false i c v))
  · exact Entails.of_eq (landed_eq (c : Thread nD τ) (chunkM true i).view fullShare (cv v i) (cF true c v) fd (read_chunk true i c v))

/-- A chunk at any contents, as the view of it sees them. -/
theorem cAny_elim (i : ℕ) : cAny (F := F) d i c ⊢ iprop(∃ fd : Buf (Elt F) ((chunkM d i).view.loc (c : Thread nD τ)),
    (chunkM d i).view.loc (c : Thread nD τ) ↦[(chunkM d i).view.set]{fullShare} fd) := by
  cases d
  · exact Entails.refl _
  · exact Entails.refl _

theorem step_send (R : sProp 𝕄) {α : Type} {Q : α → sProp 𝕄} {k : PUnit → Prog (TpuEff nD τ sig (Elt F) Λ₀ .tc) α}
    {src dst : Memref sig .tc .vmem S256x256 .bf16} {c' : Dev nD} {sS sem : SemLoc sig} {hsc} {hsrc} {hdst} {hsem}
    (h1 : a.ns < T d) (h2 : a.ns < max 16 (4 * a.nk)) (h3 : a.ns < a.nr + 4) (h4 : a.nw ≤ a.ns ∧ a.ns < a.nw + 16)
    (hc : c' = nb d c) (esrc : src = srcM d a.ns) (edst : dst = chunkM d a.ns) (eS : sS = .dma (sSem d a.ns)) (eV : sem = .dma (rSem d a.ns))
    (h : DirO V c d { a with ns := a.ns + 1 } O R ⊢ WP c (k ⟨⟩) Q) :
    DirO V c d a O R ⊢ WP c (.op (.enqueueDma src (.remote (c' : Thread nD τ) dst sS hsc) sem hsrc hdst hsem) k) Q := by
  subst hc esrc edst eS eV
  obtain ⟨q, fs, e1, e2⟩ := src_view V c d a.ns
  unfold DirO
  iintro ⟨#Hctx, HD, ⟨%W, HO⟩, HR⟩
  unfold Dir
  icases HD with ⟨A1, A2, A3, A4, A5, A6, A7, A8, A9, A10, A11⟩
  ihave A1' := (bs_pop h1 _) $$ A1; icases A1' with ⟨⟨Ht1, Ht2⟩, A1⟩
  ihave A2' := (bs_pop h2 _) $$ A2; icases A2' with ⟨⟨Hd, #Hrr⟩, A2⟩
  ihave Hd' := (cAny_elim (nb d c) d a.ns) $$ Hd
  icases Hd' with ⟨%fd, Hd⟩
  ihave A3' := (bs_pop h3 _) $$ A3; icases A3' with ⟨Hs, A3⟩
  ihave Hs' := (Entails.of_eq e1) $$ Hs
  ihave A9' := (bs_peek (Finset.mem_Ico.mpr h4) (fun i => atPos ER (sCell d i c) (i / 16) ∅ 0) (fun i => reached ER (sCell d i c) (i / 16))) $$ A9
  icases A9' with ⟨A9, #Hrs⟩
  ihave #HI1 := (ctx_cell V _ _ (sCell_eq d a.ns c)) $$ Hctx
  ihave #HI2 := (ctx_cell V _ _ (rCell_eq d a.ns (nb d c))) $$ Hctx
  unfold CInv
  icases HI1 with ⟨%κ1, #HI1⟩
  icases HI2 with ⟨%κ2, #HI2⟩
  iapply (Rounds.wp_send_pointsTo 𝒱₀ ER (Rd V) (c : Thread nD τ) none (c' := (nb d c : Thread nD τ)) (sS := .dma (sSem d a.ns)) (sem := .dma (rSem d a.ns)) (O₀ := OD c d a + O) (κ₁ := κ1) (κ₂ := κ2)
      (r₁ := a.ns / 16) (r₂ := a.ns / 16) (d₁ := 0) (d₂ := 0) (fs := fs) (fd := fd) (W := W)
      (by rw [duties_s V d a.ns c h1]; exact Finset.mem_singleton_self _) (by rw [duties_r V d a.ns (nb d c) h1]; exact Finset.mem_singleton_self _)
      (2 * (a.ns / 4) + 4) 0 N (credit_chunk d a.ns) rfl rfl (OD c d { a with ns := a.ns + 1 } + O)
      (by rw [OD_send h1, add_right_comm])
      (Entails.of_eq (e1.symm.trans (payload_s V d a.ns c 0).symm))
      (by rw [payload_r, e2]; exact landed (nb d c) d a.ns _ fd)) $$ [Ht1 Ht2 Hd Hs' HO]
  · iframe HI1 HI2 Hs' Hd HO Ht1 Hrs Ht2 Hrr
  iintro ⟨Hc, HO⟩
  iapply h
  ihave A8 := (bs_push h4.1 rfl (E8 (F := F) d c)) $$ [Hc A8]
  · iframe Hc A8
  unfold DirO Dir
  iframe Hctx A1 A2 A3 A4 A5 A6 A7 A8 A9 A10 A11 HR
  iexists W; iexact HO

/-! ## Waits on landings and on sends -/

theorem cHalves (i : ℕ) (v : Inp F) : cPts d i c fullShare v ⊢ iprop(cPts d i c fullShare.left v ∗ cPts d i c fullShare.right v) :=
  (pointsTo_share (PosShare.mem_left_op_right fullShare)).1
theorem cWhole (i : ℕ) (v : Inp F) : iprop(cPts d i c fullShare.left v ∗ cPts d i c fullShare.right v) ⊢ cPts d i c fullShare v :=
  (pointsTo_share (PosShare.mem_left_op_right fullShare)).2
theorem srcPay_shift (i : ℕ) : srcPay V d (i + 4) c = cPts d i c fullShare.left (V (origin d (i / 4) c)) := by
  unfold srcPay; rw [if_neg (by omega)]; rfl

theorem E7_add16 (i : ℕ) : E7 (F := F) d c (i + 16) = atPos ER (rCell d i c) (i / 16 + 1) ∅ 0 := by
  unfold E7 rCell; rw [rSem_add16, show (i + 16) / 16 = i / 16 + 1 by omega]
theorem E9_add16 (i : ℕ) : E9 (F := F) d c (i + 16) = iprop(atPos ER (sCell d i c) (i / 16 + 1) ∅ 0 ∗ reached ER (sCell d i c) (i / 16 + 1)) := by
  unfold E9 sCell; rw [sSem_add16, show (i + 16) / 16 = i / 16 + 1 by omega]

theorem step_recv (R : sProp 𝕄) {α : Type} {Q : α → sProp 𝕄} {k : PUnit → Prog (TpuEff nD τ sig (Elt F) Λ₀ .tc) α}
    {src dst : Memref sig .tc .vmem S256x256 .bf16} {sem : DmaSem sig} {hsrc} {hdst}
    (h1 : a.nr < T d) (h2 : a.ns ≤ a.nr + 4) (h3 : 4 * a.nc ≤ a.nr) (h4 : above d a (2 * (a.nr / 4) + 4)) (hO : High (2 * (a.nr / 4) + 4) O)
    (eV : sem = rSem d a.nr) (hN : dst.view.dmaCredit = N)
    (h : DirO V c d { a with nr := a.nr + 1 } O R ⊢ WP c (k ⟨⟩) Q) :
    DirO V c d a O R ⊢ WP c (.op (.waitDma2 sem src dst hsrc hdst) k) Q := by
  subst eV
  have hT : T d ≤ 32 := by cases d <;> decide
  unfold DirO
  iintro ⟨#Hctx, HD, ⟨%W, HO⟩, HR⟩
  unfold Dir
  icases HD with ⟨A1, A2, A3, A4, A5, A6, A7, A8⟩
  ihave A6' := (bs_pop h1 _) $$ A6; icases A6' with ⟨Hc, A6⟩
  ihave A7' := (bs_pop (show a.nr < a.nr + 16 by omega) _) $$ A7; icases A7' with ⟨Hat, A7⟩
  ihave #HI1 := (ctx_cell V _ _ (rCell_eq d a.nr c)) $$ Hctx
  unfold CInv
  icases HI1 with ⟨%κ1, #HI1⟩
  iapply (Rounds.wp_wait_rest_token 𝒱₀ ER (Rd V) (c : Thread nD τ) none (κ := κ1)
      (wpE_waitDma2_eq 𝒱₀ (c : Thread nD τ) none Set.univ) (Set.mem_univ _) (2 * (a.nr / 4) + 4) (O := OD c d a + O) (W := W) (R := a.nr / 16) (m := 0) (T := ∅)
      (by rw [Nat.zero_add, hN, expect_r V d a.nr c h1])) $$ [Hc HO Hat]
  · rw [hN]
    isplitr; · iexact HI1
    isplitl [Hc]; · iexact Hc
    isplitl [HO]; · iexact HO
    isplitr [Hat]; rotate_left; · iexact Hat
    iapply (ctx_wait V c _ _ (by omega) _ (high_add (high_OD h4) hO)) $$ Hctx
  iintro ⟨HO, Hat, #Hr, Hp⟩
  ihave Hp := (Entails.of_eq (show bigSep ((Rd V).duties (rCell d a.nr c) (a.nr / 16) \ ∅) (fun d' => (Rd V).payload (rCell d a.nr c) (a.nr / 16) d') = rcvPay V d a.nr c by
      rw [duties_r V d a.nr c h1, Finset.sdiff_empty, bigSep_singleton, payload_r])) $$ Hp
  unfold rcvPay
  ihave Hp := (cHalves c d a.nr _) $$ Hp
  icases Hp with ⟨Hl, Hrt⟩
  ihave Hl := (Entails.of_eq (srcPay_shift V c d a.nr).symm) $$ Hl
  ihave A3 := (bs_push h2 (by omega : a.nr + 1 + 4 = a.nr + 4 + 1) (fun i => srcPay V d i c)) $$ [Hl A3]
  · iframe Hl A3
  ihave A5 := (bs_push h3 rfl (E5 V d c)) $$ [Hrt A5]
  · iframe Hrt A5; iexact Hr
  ihave A7 := (bs_push (by omega : a.nr + 1 ≤ a.nr + 16) (by omega : a.nr + 1 + 16 = a.nr + 16 + 1) (E7 (F := F) d c)) $$ [Hat A7]
  · iframe A7
    iapply (Entails.of_eq (E7_add16 c d a.nr).symm) $$ Hat
  iapply h
  unfold DirO Dir
  iframe Hctx A1 A2 A3 A4 A5 A6 A7 A8 HR
  iexists _; iexact HO

theorem filter_push {x y : ℕ} (h : x < 4 ∨ y + 4 ≤ x) (A : ℕ → sProp 𝕄) :
    iprop(A x ∗ bigSep ((Finset.range x).filter fun i => i < 4 ∨ y + 4 ≤ i) A) ⊢ bigSep ((Finset.range (x + 1)).filter fun i => i < 4 ∨ y + 4 ≤ i) A := by
  rw [Finset.range_add_one, Finset.filter_insert, if_pos h]
  exact Entails.of_eq (bigSep_insert (by simp)).symm

theorem step_sent (R : sProp 𝕄) {α : Type} {Q : α → sProp 𝕄} {k : PUnit → Prog (TpuEff nD τ sig (Elt F) Λ₀ .tc) α}
    {src dst : Memref sig .tc .vmem S256x256 .bf16} {sem : DmaSem sig} {hsrc} {hdst}
    (h1 : a.nw < T d) (h2 : a.nw < a.ns) (h3 : a.nw < 4 ∨ 4 * a.nc + 4 ≤ a.nw) (h4 : above d a 0) (hO : High 0 O)
    (eV : sem = sSem d a.nw) (hN : dst.view.dmaCredit = N)
    (h : DirO V c d { a with nw := a.nw + 1 } O R ⊢ WP c (k ⟨⟩) Q) :
    DirO V c d a O R ⊢ WP c (.op (.waitDma2 sem src dst hsrc hdst) k) Q := by
  subst eV
  unfold DirO
  iintro ⟨#Hctx, HD, ⟨%W, HO⟩, HR⟩
  unfold Dir
  icases HD with ⟨A1, A2, A3, A4, A5, A6, A7, A8, A9, A10⟩
  ihave A8' := (bs_pop h2 _) $$ A8; icases A8' with ⟨Hc, A8⟩
  ihave A9' := (bs_pop (show a.nw < a.nw + 16 by omega) _) $$ A9; icases A9' with ⟨⟨Hat, -⟩, A9⟩
  ihave #HI1 := (ctx_cell V _ _ (sCell_eq d a.nw c)) $$ Hctx
  unfold CInv
  icases HI1 with ⟨%κ1, #HI1⟩
  iapply (Rounds.wp_wait_rest_token 𝒱₀ ER (Rd V) (c : Thread nD τ) none (κ := κ1)
      (wpE_waitDma2_eq 𝒱₀ (c : Thread nD τ) none Set.univ) (Set.mem_univ _) 0 (O := OD c d a + O) (W := W) (R := a.nw / 16) (m := 0) (T := ∅)
      (by rw [Nat.zero_add, hN, expect_s V d a.nw c h1])) $$ [Hc HO Hat]
  · rw [hN]
    isplitr; · iexact HI1
    isplitl [Hc]; · iexact Hc
    isplitl [HO]; · iexact HO
    isplitr [Hat]; rotate_left; · iexact Hat
    iapply (ctx_wait V c _ _ (by omega) _ (high_add (high_OD h4) hO)) $$ Hctx
  iintro ⟨HO, Hat, #Hr, Hp⟩
  ihave Hp := (Entails.of_eq (show bigSep ((Rd V).duties (sCell d a.nw c) (a.nw / 16) \ ∅) (fun d' => (Rd V).payload (sCell d a.nw c) (a.nw / 16) d') = srcPay V d a.nw c by
      rw [duties_s V d a.nw c h1, Finset.sdiff_empty, bigSep_singleton, payload_s])) $$ Hp
  ihave A4 := (filter_push h3 (fun i => srcPay V d i c)) $$ [Hp A4]
  · iframe Hp A4
  ihave A9 := (bs_push (by omega : a.nw + 1 ≤ a.nw + 16) (by omega : a.nw + 1 + 16 = a.nw + 16 + 1) (E9 (F := F) d c)) $$ [Hat A9]
  · iframe A9
    iapply (Entails.of_eq (E9_add16 c d a.nw).symm)
    iframe Hat; iexact Hr
  iapply h
  unfold DirO Dir
  iframe Hctx A1 A2 A3 A4 A5 A6 A7 A8 A9 A10 HR
  iexists _; iexact HO

/-! ## Credits -/

theorem credPay_mono {x y : ℕ} (h : x ≤ y) : credPay (F := F) d y c ⊢ credPay d x c := by
  unfold credPay; exact bigSep_subset (by intro z hz; rw [Finset.mem_range] at hz ⊢; omega)

theorem CPos_lt {nk : ℕ} (h : nk < 4 + C d) : CPos (F := F) d c nk = iprop(∃ S : Finset ℕ,
    ⌜S ⊆ Finset.range (1 + C d) ∧ nk + (Finset.range (1 + C d) \ S).card ≤ 4 + C d⌝
      ∗ atPos ER (cCell d c) 0 S nk ∗ bigSep S fun k => credPay (F := F) d k c) := if_pos h
theorem CPos_end {nk : ℕ} (h : ¬ nk < 4 + C d) : CPos (F := F) d c nk = atPos ER (cCell d c) 1 ∅ 0 := if_neg h

/-- Consuming one credit unit: among the first `nk + 1` units is one sent after the first `nk - 3` slots were freed. -/
theorem credit_core {α : Type} {Q : α → sProp 𝕄} {k : PUnit → Prog (TpuEff nD τ sig (Elt F) Λ₀ .tc) α}
    (O' : CellTallies nD τ sig ℕ) (W : Waits sig ℕ) (nk : ℕ) (h1 : nk < 4 + C d) (hO : High (ctag nk) O') :
    iprop(Ctx V ∗ CPos d c nk ∗ E11 d c nk ∗ owes (c : Thread nD τ) O' W)
      ⊢ iprop(((CPos d c (nk + 1) ∗ credPay d (nk - 3) c ∗ ∃ W' : Waits sig ℕ, owes (c : Thread nD τ) O' W') -∗ WP c (k ⟨⟩) Q)
        -∗ WP c (.op (.semWait (cSem d) ((1 : ℕ) : ℤ)) k) Q) := by
  have hC : C d ≤ 4 := by cases d <;> decide
  have ht : ctag nk < 64 := by unfold ctag; split <;> omega
  iintro ⟨#Hctx, Hpos, Hc, HO⟩ Hk
  ihave #HI := (ctx_cell V _ _ (cCell_eq d c)) $$ Hctx
  unfold CInv
  icases HI with ⟨%κ1, #HI⟩
  ihave Hpos := (Entails.of_eq (CPos_lt c d h1)) $$ Hpos
  icases Hpos with ⟨%S, %hS, Hat, #HS⟩
  by_cases hk : nk + 1 < 4 + C d
  · iapply (Rounds.wp_wait 𝒱₀ ER (Rd V) (c : Thread nD τ) none (κ := κ1)
        (wpE_semWait_eq 𝒱₀ (c : Thread nD τ) none Set.univ) (Set.mem_univ _) (cr := Finsupp.single (ctag nk) 1) {(SemLoc.reg (cSem d), ctag nk)}
        (O := O') (W := W) (R := 0) (m := nk) (T := S) (Util.total_single _ _) (image_single_subset _ _ _)) $$ [Hc HO Hat]
    · isplitr; · iexact HI
      isplitl [Hc]; · iexact Hc
      isplitl [HO]; · iexact HO
      isplitr [Hat]; rotate_left; · iexact Hat
      iapply (ctx_wait V c _ _ ht _ hO) $$ Hctx
    iintro %S' ⟨%hS', HO, Hat, Hp⟩
    rw [duties_c, expect_c] at hS'
    ihave Hp := (Entails.of_eq (bigSep_congr (s := S' \ S) fun j _ => payload_c V d c j)) $$ Hp
    ihave Hall := (bs_sdiff hS'.1 fun j => credPay (F := F) d j c) $$ [Hp]
    · iframe HS Hp
    icases Hall with #Hall
    iapply Hk
    isplitl [Hat]
    · iapply (Entails.of_eq (CPos_lt c d hk).symm)
      iexists S'
      iframe Hat Hall
      ipureintro; exact ⟨hS'.2.1, hS'.2.2⟩
    isplitr
    · by_cases h3 : nk < 3
      · rw [show nk - 3 = 0 by omega]; unfold credPay; rw [Finset.range_zero, bigSep_empty]; iempintro
      · have hj : ∃ j ∈ S', nk - 3 ≤ j := by
          by_contra hcon
          push Not at hcon
          have hsub : S' ⊆ Finset.range (nk - 3) := fun j hj => Finset.mem_range.mpr (hcon j hj)
          have e1 := Finset.card_le_card hsub
          have e2 := Finset.card_sdiff_add_card_eq_card hS'.2.1
          rw [Finset.card_range] at e1 e2
          omega
        obtain ⟨j, hj, hjk⟩ := hj
        iapply (credPay_mono c d hjk)
        iapply (bs_elim hj fun j => credPay (F := F) d j c) $$ Hall
    · iexists _; iexact HO
  · iapply (Rounds.wp_wait_rest_token 𝒱₀ ER (Rd V) (c : Thread nD τ) none (κ := κ1)
        (wpE_semWait_eq 𝒱₀ (c : Thread nD τ) none Set.univ) (Set.mem_univ _) (ctag nk)
        (O := O') (W := W) (R := 0) (m := nk) (T := S) (by rw [expect_c]; omega)) $$ [Hc HO Hat]
    · isplitr; · iexact HI
      isplitl [Hc]; · iexact Hc
      isplitl [HO]; · iexact HO
      isplitr [Hat]; rotate_left; · iexact Hat
      iapply (ctx_wait V c _ _ ht _ hO) $$ Hctx
    iintro ⟨HO, Hat, -, Hp⟩
    rw [duties_c]
    ihave Hp := (Entails.of_eq (bigSep_congr (s := Finset.range (1 + C d) \ S) fun j _ => payload_c V d c j)) $$ Hp
    ihave Hall := (bs_sdiff hS.1 fun j => credPay (F := F) d j c) $$ [Hp]
    · iframe HS Hp
    iapply Hk
    isplitl [Hat]
    · iapply (Entails.of_eq (CPos_end c d hk).symm) $$ Hat
    isplitl [Hall]
    · iapply (credPay_mono c d (show nk - 3 ≤ C d by omega))
      iapply (bs_elim (Finset.mem_range.mpr (by omega : C d < 1 + C d)) fun j => credPay (F := F) d j c) $$ Hall
    · iexists _; iexact HO

theorem bs_shift (x y m : ℕ) (A : ℕ → sProp 𝕄) : bigSep (Finset.Ico (x + m) (y + m)) A = bigSep (Finset.Ico x y) fun i => A (i + m) := by
  have e : Finset.Ico (x + m) (y + m) = (Finset.Ico x y).map (addRightEmbedding m) := by
    ext z; simp only [Finset.mem_Ico, Finset.mem_map, addRightEmbedding_apply]
    constructor
    · intro h; exact ⟨z - m, by omega, by omega⟩
    · rintro ⟨w, h, rfl⟩; omega
  rw [e, bigSep_map]
  rfl

/-- A slot given back is the next round's four destinations. -/
theorem slot_chunks (nk : ℕ) (h : 4 ≤ nk) (h' : nk < 8) :
    slotBack (F := F) ((nb d c, d, nk - 4) : KK) ⊢ bigSep (Finset.Ico (4 * nk) (4 * nk + 4)) (E2 (F := F) d c) := by
  have e1 : 4 * nk = 4 * (nk - 4) + 16 := by omega
  have e2 : 4 * nk + 4 = 4 * (nk - 4) + 4 + 16 := by omega
  rw [e2, e1, bs_shift]
  refine Entails.of_eq (bigSep_congr fun i hi => ?_)
  have hi' := Finset.mem_Ico.mp hi
  have e3 : (i + 16) / 16 = 1 := by have : i < 16 := by have := hi'.2; dsimp only at this; omega
                                    omega
  show iprop(cAny (F := F) d i (nb d c) ∗ reached ER (rCell d i (nb d c)) 1) = iprop(cAny (F := F) d (i + 16) (nb d c) ∗ reached ER (rCell d (i + 16) (nb d c)) ((i + 16) / 16))
  rw [e3, cAny_add16]; unfold rCell; rw [rSem_add16]

theorem step_credit (R : sProp 𝕄) {α : Type} {Q : α → sProp 𝕄} {k : PUnit → Prog (TpuEff nD τ sig (Elt F) Λ₀ .tc) α} {sem : Sem sig} {n : ℤ}
    (h1 : a.nk < 4 + C d) (h2 : a.ns ≤ 4 * a.nk) (h4 : above d a (ctag a.nk)) (hO : High (ctag a.nk) O)
    (eV : sem = cSem d) (en : n = ((1 : ℕ) : ℤ))
    (h : DirO V c d { a with nk := a.nk + 1 } O R ⊢ WP c (k ⟨⟩) Q) :
    DirO V c d a O R ⊢ WP c (.op (.semWait sem n) k) Q := by
  subst eV en
  have hC : C d ≤ 4 := by cases d <;> decide
  unfold DirO
  iintro ⟨#Hctx, HD, ⟨%W, HO⟩, HR⟩
  unfold Dir
  icases HD with ⟨A1, A2, A3, A4, A5, A6, A7, A8, A9, A10, A11, A12, A13⟩
  ihave A11' := (bs_pop h1 _) $$ A11; icases A11' with ⟨Hc, A11⟩
  iapply (credit_core V c d (OD c d a + O) W a.nk h1 (high_add (high_OD h4) hO)) $$ [A10 Hc HO]
  · iframe Hctx A10 Hc HO
  iintro ⟨A10, #Hcred, ⟨%W', HO⟩⟩
  by_cases hk : a.nk < 4
  · iapply h
    unfold DirO Dir
    have e1 : max 16 (4 * (a.nk + 1)) = max 16 (4 * a.nk) := by omega
    have e2 : a.nk + 1 - 4 = a.nk - 4 := by omega
    dsimp only
    rw [e1, e2]
    iframe Hctx A1 A2 A3 A4 A5 A6 A7 A8 A9 A10 A11 A12 A13 HR
    iexists W'; iexact HO
  · ihave A12' := (bs_pop (show a.nk - 4 < C d by omega) _) $$ A12; icases A12' with ⟨Htok, A12⟩
    ihave #HI := (ctx_slot V (nb d c, d, a.nk - 4) (show a.nk - 4 < 4 by omega)) $$ Hctx
    unfold SInv
    icases HI with ⟨%ι, #HI⟩
    ihave #Hrel := (show credPay (F := F) d (a.nk - 3) c ⊢ released ES ((nb d c, d, a.nk - 4) : KK) 1 from
      bs_elim (Finset.mem_range.mpr (by omega : a.nk - 4 < a.nk - 3)) fun s => released ES ((nb d c, d, s) : KK) 1) $$ Hcred
    imod (slot_take ES (Es := Set.univ) (Set.mem_univ ι) 1) $$ [Htok] with HS
    · iframe HI Hrel Htok
    iapply h
    unfold DirO Dir
    have e1 : max 16 (4 * (a.nk + 1)) = 4 * a.nk + 4 := by omega
    have e0 : max 16 (4 * a.nk) = 4 * a.nk := by omega
    have e2 : a.nk + 1 - 4 = a.nk - 4 + 1 := by omega
    dsimp only
    rw [e1, e0, e2]
    ihave HS := (slot_chunks c d a.nk (by omega) (by omega)) $$ HS
    ihave A2 := (Entails.of_eq (bs_split h2 (by omega : 4 * a.nk ≤ 4 * a.nk + 4) (E2 (F := F) d c)).symm) $$ [A2 HS]
    · iframe A2 HS
    iframe Hctx A1 A2 A3 A4 A5 A6 A7 A8 A9 A10 A11 A12 A13 HR
    iexists W'; iexact HO

end Cert.RingProof

end
-- ==== Proof.Slots.lean ====
/-
# Slots given back, loads and the store

The rest of the operations of the ring: a freed slot handed back by a credit, the loads of the own weights, of a slot and
of the accumulator, and the store of one addition.
-/
module

public import proofs.«01_k».proof.Proof.Steps
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (V : Dev nD → Inp F) (c : Dev nD) (d : Bool) (a : Cnt) (O : CellTallies nD τ sig ℕ)

/-! ## Giving a slot back -/

theorem bs_sep {s : Finset ℕ} (A B : ℕ → sProp 𝕄) : iprop(bigSep s A ∗ bigSep s B) ⊢ bigSep s fun i => iprop(A i ∗ B i) :=
  Entails.of_eq (bigSep_sep s A B).symm
theorem bs_unsep {s : Finset ℕ} (A B : ℕ → sProp 𝕄) : (bigSep s fun i => iprop(A i ∗ B i)) ⊢ iprop(bigSep s A ∗ bigSep s B) :=
  Entails.of_eq (bigSep_sep s A B)
theorem bs_mono {s : Finset ℕ} {A B : ℕ → sProp 𝕄} (h : ∀ i ∈ s, A i ⊢ B i) : bigSep s A ⊢ bigSep s B := bigSep_mono h

/-- A landed chunk and the share its own send lent make the chunk whole again. -/
theorem chunk_back (i : ℕ) (v : Inp F) : iprop(cPts d i c fullShare.left v ∗ cPts d i c fullShare.right v) ⊢ cAny d i c := by
  refine (cWhole c d i v).trans ?_
  unfold cPts cAny
  iintro H; iexists cF d c v; iexact H

theorem slot_back (nc : ℕ) (h : nc < 4) :
    iprop(bigSep (Finset.Ico (4 * nc + 4) (4 * nc + 8)) (fun i => srcPay V d i c) ∗ bigSep (Finset.Ico (4 * nc) (4 * nc + 4)) (E5 V d c))
      ⊢ slotBack ((c, d, nc) : KK) := by
  rw [show 4 * nc + 8 = 4 * nc + 4 + 4 by omega, bs_shift (F := F)]
  refine (bs_sep _ _).trans (bs_mono fun i hi => ?_)
  have hi' := Finset.mem_Ico.mp hi
  have e : i / 16 + 1 = 1 := by have := hi'.2; omega
  rw [srcPay_shift]
  show iprop(_ ∗ (_ ∗ reached ER (rCell d i c) (i / 16 + 1))) ⊢ iprop(_ ∗ _)
  rw [e]
  iintro ⟨H1, ⟨H2, H3⟩⟩
  isplitr [H3]
  · iapply (chunk_back c d i (V (origin d (i / 4) c)))
    iframe H1 H2
  · iexact H3

theorem cSet_nonempty (i : ℕ) : ∃ x, x ∈ cSet d i c := by
  have key : ∃ ix : S4x2x2x256x256.Idx, ix ∈ (cRect i).set := by
    have hp : ∀ b : Fin 5, 0 < S1x1x1x256x256.size b := by decide
    exact ⟨(cRect i).emb fun b => ⟨0, hp b⟩, by rw [← Rect.map_emb_univ]; exact Finset.mem_map_of_mem _ (Finset.mem_univ _)⟩
  obtain ⟨ix, h⟩ := key
  cases d
  · exact ⟨ix, by rw [cSet_false]; exact h⟩
  · exact ⟨ix, by rw [cSet_true]; exact h⟩
theorem cAny_twice (i : ℕ) : iprop(cAny (F := F) d i c ∗ cAny d i c) ⊢ (False : sProp 𝕄) := by
  obtain ⟨x, hx⟩ := cSet_nonempty c d i
  unfold cAny
  iintro ⟨⟨%f, H1⟩, ⟨%g, H2⟩⟩
  iapply (pointsTo_overlap_false (q := fullShare) (f := f) (g := g) hx hx)
  iframe H1 H2
theorem slotBack_twice (kk : KK) : iprop(slotBack (F := F) kk ∗ slotBack kk) ⊢ (False : sProp 𝕄) := by
  have h : slotBack (F := F) kk ⊢ cAny kk.2.1 (4 * kk.2.2) kk.1 := by
    unfold slotBack
    iintro H
    ihave H := (bs_pop (by omega) _) $$ H
    icases H with ⟨⟨H, -⟩, -⟩
    iexact H
  iintro ⟨H1, H2⟩
  iapply (cAny_twice kk.1 kk.2.1 (4 * kk.2.2))
  isplitl [H1]
  · iapply h $$ H1
  · iapply h $$ H2

theorem filter_take (nw nc : ℕ) (h : 4 * nc + 8 ≤ nw) (A : ℕ → sProp 𝕄) :
    bigSep ((Finset.range nw).filter fun i => i < 4 ∨ 4 * nc + 4 ≤ i) A
      ⊢ iprop(bigSep (Finset.Ico (4 * nc + 4) (4 * nc + 8)) A ∗ bigSep ((Finset.range nw).filter fun i => i < 4 ∨ 4 * (nc + 1) + 4 ≤ i) A) := by
  have e : (Finset.range nw).filter (fun i => i < 4 ∨ 4 * nc + 4 ≤ i)
      = Finset.Ico (4 * nc + 4) (4 * nc + 8) ∪ (Finset.range nw).filter (fun i => i < 4 ∨ 4 * (nc + 1) + 4 ≤ i) := by
    ext z; simp only [Finset.mem_filter, Finset.mem_union, Finset.mem_Ico, Finset.mem_range]; omega
  rw [e]
  refine Entails.of_eq (bigSep_union ?_)
  rw [Finset.disjoint_left]; intro z h1 h2
  simp only [Finset.mem_filter, Finset.mem_Ico, Finset.mem_range] at h1 h2; omega

theorem credPay_nb (n : ℕ) : credPay (F := F) d n (nb (!d) c) = bigSep (Finset.range n) (E15 (F := F) d c) := by
  unfold credPay; rw [nb_nb']

theorem step_signal (R : sProp 𝕄) {α : Type} {Q : α → sProp 𝕄} {k : PUnit → Prog (TpuEff nD τ sig (Elt F) Λ₀ .tc) α} {c' : Dev nD} {sem : Sem sig} {n : ℤ}
    (h1 : a.nc < C d) (h2 : 4 * a.nc + 4 ≤ a.nr) (h3 : 4 * a.nc + 8 ≤ a.nw)
    (hc : c' = nb (!d) c) (eV : sem = cSem d) (en : n = ((1 : ℕ) : ℤ))
    (h : DirO V c d { a with nc := a.nc + 1 } O R ⊢ WP c (k ⟨⟩) Q) :
    DirO V c d a O R ⊢ WP c (.op (.semSignal (c' : Thread nD τ) sem n) k) Q := by
  subst hc eV en
  have hC : C d ≤ 4 := by cases d <;> decide
  unfold DirO
  iintro ⟨#Hctx, HD, ⟨%W, HO⟩, HR⟩
  unfold Dir
  icases HD with ⟨A1, A2, A3, A4, A5, A6, A7, A8, A9, A10, A11, A12, A13, A14, A15⟩
  ihave A13' := (bs_pop h1 _) $$ A13; icases A13' with ⟨Hrd, A13⟩
  ihave A14' := (bs_pop (show a.nc + 1 < C d + 1 by omega) _) $$ A14; icases A14' with ⟨Htok, A14⟩
  ihave A4' := (filter_take a.nw a.nc h3 _) $$ A4; icases A4' with ⟨Hs, A4⟩
  ihave A5' := (Entails.of_eq (bs_split (show 4 * a.nc ≤ 4 * a.nc + 4 by omega) h2 (E5 V d c))) $$ A5; icases A5' with ⟨Ht, A5⟩
  ihave HS := (slot_back V c d a.nc (by omega)) $$ [Hs Ht]
  · iframe Hs Ht
  ihave #HI := (ctx_slot V (c, d, a.nc) (show a.nc < 4 by omega)) $$ Hctx
  unfold SInv
  icases HI with ⟨%ι, #HI⟩
  imod (slot_release ES (Es := Set.univ) (Set.mem_univ ι) (slotBack_twice (F := F) ((c, d, a.nc) : KK)) 0) $$ [Hrd HS] with ⟨-, #Hrel⟩
  · iframe HI Hrd HS
  ihave A15 := (Entails.of_eq (bigSep_range_succ a.nc (E15 (F := F) d c)).symm) $$ [A15]
  · iframe A15; iexact Hrel
  icases A15 with #A15
  ihave #HI1 := (ctx_cell V _ _ (cCell_eq d (nb (!d) c))) $$ Hctx
  ihave #Hr := (ctx_reached V _ _ (cCell_eq d (nb (!d) c))) $$ Hctx
  unfold CInv
  icases HI1 with ⟨%κ1, #HI1⟩
  iapply (Rounds.wp_signal 𝒱₀ ER (Rd V) (c : Thread nD τ) none (dst := (nb (!d) c : Thread nD τ)) (sem := cSem d) (r := 0) (d := a.nc + 1) (k' := 1) (κ := κ1)
      (by rw [duties_c]; exact Finset.mem_range.mpr (by omega)) ((amount_c V d (nb (!d) c) (a.nc + 1)).trans (if_neg (by omega)))
      (2 * (a.nc + 1) + 5) (O₀ := OD c d a + O) (W := W) (OD c d { a with nc := a.nc + 1 } + O) (by rw [OD_credit h1, add_right_comm])) $$ [HO Htok]
  · isplitr; · iexact HI1
    isplitl [HO]; · iexact HO
    isplitl [Htok]; · iexact Htok
    isplitr
    · iapply (Entails.of_eq ((credPay_nb c d (a.nc + 1)).symm.trans (payload_c V d (nb (!d) c) (a.nc + 1)).symm)) $$ A15
    · iexact Hr
  iintro HO
  iapply h
  unfold DirO Dir
  rw [show 4 * (a.nc + 1) = 4 * a.nc + 4 by omega]
  iframe Hctx A1 A2 A3 A4 A5 A6 A7 A8 A9 A10 A11 A12 A13 A14 A15 HR
  iexists W; iexact HO

/-! ## Loads of a slot -/

/-- A slot filled with one device's weights, as a load of the slot reads it. -/
def slotV (v : Inp F) : S1x2x2x256x256.Idx → Elt F .bf16 := fun k => wF v fun b => k b.succ

theorem readAt_slot (s : ℕ) (hs : s < 4) (v : Inp F) : (cM d).view.readAt (Elt F) (sRect s hs).toLoadRect (cF d c v) = slotV v := by
  have key : ∀ k : S1x2x2x256x256.Idx, sF v ((sRect s hs).emb k) = slotV v k := by
    intro k
    unfold sF slotV
    congr 1
    funext b
    refine Fin.ext ?_
    refine (emb_unit_val (s := S4x2x2x256x256) ![s, 0, 0, 0, 0] _ (inb_slot s hs) k b.succ).trans ?_
    fin_cases b <;> exact Nat.zero_add _
  cases d
  · exact funext key
  · exact funext key

/-- The four right halves of a slot's chunks are one points-to over the slot. -/
theorem slot_join (h : ℕ) (v : Inp F) (q : PosShare TreeShare) :
    (cLoc d c ↦[(Finset.Ico (4 * h) (4 * h + 4)).biUnion fun i => cSet d i c]{q} cF d c v : sProp 𝕄)
      = bigSep (Finset.Ico (4 * h) (4 * h + 4)) fun i => cPts d i c q v := by
  refine pointsTo_biUnion _ _ fun i hi j hj hij => cSet_disjoint d c ?_
  rw [Finset.mem_Ico] at hi hj; omega

theorem step_slot (R : sProp 𝕄) {α : Type} {Q : α → sProp 𝕄} (h : ℕ) (hs : h % 4 < 4)
    {k : ((sRect (h % 4) hs).toLoadRect.shape.Idx → Elt F .bf16) → Prog (TpuEff nD τ sig (Elt F) Λ₀ .tc) α} {hl}
    (h1 : a.nc ≤ h) (h2 : 4 * h + 4 ≤ a.nr)
    (hk : DirO V c d a O R ⊢ WP c (k (slotV (V (origin d h c)))) Q) :
    DirO V c d a O R ⊢ WP c (.op (.load (cM d) (sRect (h % 4) hs).toLoadRect hl) k) Q := by
  unfold DirO at hk ⊢
  iintro ⟨#Hctx, HD, HO, HR⟩
  unfold Dir at hk ⊢
  icases HD with ⟨A1, A2, A3, A4, A5, A6⟩
  ihave A5' := (Entails.of_eq ((bs_split (show 4 * a.nc ≤ 4 * h by omega) (by omega) (E5 V d c)).trans
    (congrArg (fun P => iprop(bigSep (Finset.Ico (4 * a.nc) (4 * h)) (E5 V d c) ∗ P)) (bs_split (show 4 * h ≤ 4 * h + 4 by omega) h2 (E5 V d c))))) $$ A5
  icases A5' with ⟨L, M, U⟩
  ihave M := (bs_unsep _ _) $$ M
  icases M with ⟨M1, M2⟩
  have e : bigSep (Finset.Ico (4 * h) (4 * h + 4)) (fun i => cPts d i c fullShare.right (V (origin d (i / 4) c)))
      = bigSep (Finset.Ico (4 * h) (4 * h + 4)) (fun i => cPts d i c fullShare.right (V (origin d h c))) := by
    refine bigSep_congr fun i hi => ?_
    rw [Finset.mem_Ico] at hi
    rw [show i / 4 = h by omega]
  ihave M1 := (Entails.of_eq (e.trans (slot_join c d h (V (origin d h c)) fullShare.right).symm)) $$ M1
  iapply (wp_load 𝒱₀ (c : Thread nD τ) none Set.univ (m := cM d) (r := (sRect (h % 4) hs).toLoadRect) (hl := hl) (k := k) (slot_subset d c h hs)) $$ M1
  iintro M1
  rw [readAt_slot]
  iapply hk
  ihave M1 := (Entails.of_eq ((slot_join c d h (V (origin d h c)) fullShare.right).trans e.symm)) $$ M1
  ihave M := (bs_sep _ _) $$ [M1 M2]
  · iframe M1 M2
  ihave A5 := (Entails.of_eq ((bs_split (show 4 * a.nc ≤ 4 * h by omega) (by omega) (E5 V d c)).trans
    (congrArg (fun P => iprop(bigSep (Finset.Ico (4 * a.nc) (4 * h)) (E5 V d c) ∗ P)) (bs_split (show 4 * h ≤ 4 * h + 4 by omega) h2 (E5 V d c)))).symm) $$ [L M U]
  · iframe L M U
  iframe Hctx A1 A2 A3 A4 A5 A6 HO HR

end Cert.RingProof

end
-- ==== Proof.Track.lean ====
/-
# Both directions beside the accumulator

The accumulator after each addition as a function of the inputs, and the operations of the ring restated over the whole
state of one device.
-/
module

public import proofs.«01_k».proof.Proof.Slots
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (V : Dev nD → Inp F) (c : Dev nD) (d : Bool) (a : Cnt) (O : CellTallies nD τ sig ℕ)

variable (V : Dev nD → Inp F) (c : Dev nD)

/-! ## The accumulator -/

theorem inb_half (n : ℕ) : ∀ a, (![0, 256 * (n % 2)] : Fin 2 → ℕ) a + S512x256.size a ≤ S512x512.size a := by
  intro a; fin_cases a
  · show 0 + 512 ≤ 512; omega
  · show 256 * (n % 2) + 256 ≤ 512; omega
theorem inb_ownHalf (n : ℕ) : ∀ a, (![n % 2, 0, 0, 0] : Fin 4 → ℕ) a + S1x2x256x256.size a ≤ S2x2x256x256.size a := by
  intro a; fin_cases a
  · show n % 2 + 1 ≤ 2; omega
  · show 0 + 2 ≤ 2; omega
  · show 0 + 256 ≤ 256; omega
  · show 0 + 256 ≤ 256; omega

/-- The column half the `n`-th addition writes, and the half of the own weights it reads. -/
abbrev oRect (n : ℕ) : Rect S512x512 := Rect.unit ![0, 256 * (n % 2)] S512x256.size (inb_half n)
abbrev ownRect (n : ℕ) : Rect S2x2x256x256 := Rect.unit ![n % 2, 0, 0, 0] S1x2x256x256.size (inb_ownHalf n)

/-- The expert pair the `n`-th addition serves: as the kernel computes it, and whose device it is. -/
def word0 : BitVec 32 := Scalar.remsi (Scalar.divsi (Dev.word c) 1#32) 16#32
def wordR (h : ℕ) : BitVec 32 := Scalar.remsi (Scalar.addi (Scalar.subi (word0 c) (BitVec.ofNat 32 h)) 16#32) 16#32
def wordL (h : ℕ) : BitVec 32 := Scalar.remsi (Scalar.addi (word0 c) (BitVec.ofNat 32 h)) 16#32
def aWord (n : ℕ) : BitVec 32 := match n / 2 with
  | 0 => word0 c
  | p + 1 => match p % 2 with | 0 => wordR c (p / 2 + 1) | _ => wordL c (p / 2 + 1)
def aDev (n : ℕ) : Dev nD := match n / 2 with
  | 0 => c
  | p + 1 => match p % 2 with | 0 => origin false (p / 2) c | _ => origin true (p / 2) c

/-- Half `n % 2` of one device's weights, out of the own buffer or out of a slot. -/
def hOwn (v : Inp F) (n : ℕ) : FVec F S512x256 .bf16 :=
  shapeCast S512x256 (shapeCast S2x256x256 (wM.view.readAt (Elt F) (ownRect n).toLoadRect (wF v) : FVec F S1x2x256x256 .bf16) shapeCasts_S1x2x256x256_S2x256x256) shapeCasts_S2x256x256_S512x256
def hSlot (v : Inp F) (n : ℕ) : FVec F S512x256 .bf16 := match n % 2 with
  | 0 => shapeCast S512x256 (shapeCast S2x256x256 (extractStridedSlice S1x2x256x256 ![0, 0, 0, 0] (k0_pay22 (slotV v)) slices_S2x2x256x256_o0_0_0_0_S1x2x256x256) shapeCasts_S1x2x256x256_S2x256x256) shapeCasts_S2x256x256_S512x256
  | _ => shapeCast S512x256 (shapeCast S2x256x256 (extractStridedSlice S1x2x256x256 ![1, 0, 0, 0] (k0_pay22 (slotV v)) slices_S2x2x256x256_o1_0_0_0_S1x2x256x256) shapeCasts_S1x2x256x256_S2x256x256) shapeCasts_S2x256x256_S512x256
def aHalf (n : ℕ) : FVec F S512x256 .bf16 := match n / 2 with
  | 0 => hOwn (V c) n
  | _ + 1 => hSlot (V (aDev c n)) n

/-- The tokens weighted for the expert pair of one device. -/
def xg (w : BitVec 32) : FVec F S512x512 .bf16 :=
  k0_pay19 w (k0_pay7 (V c).x) (k0_pay12 (V c).i) (k0_pay13 (V c).i) (k0_pay16 (k0_pay8 (V c).x (V c).g) (k0_pay9 (V c).x (V c).g) (V c).i)
    (k0_pay17 (k0_pay8 (V c).x (V c).g) (k0_pay9 (V c).x (V c).g) (V c).i)

/-- The accumulator after `n` additions. -/
def accum : ℕ → (cc0_stg4_0 : Ref sig .tc).ty.Contents (Elt F)
  | 0 => k0_pay18 (F := F)
  | n + 1 => (oM.access (oRect n)).write (Elt F) (accum n)
      (k0_pay1 (xg V c (aWord c n)) (aHalf V c n) (oM.view.readAt (Elt F) (oRect n).toLoadRect (accum n))) Finset.univ

/-! ## Both directions and the accumulator -/

structure S where
  (r l : Cnt)
  n : ℕ

def S.get (s : S) : Bool → Cnt | false => s.r | true => s.l
def S.set (s : S) (d : Bool) (a : Cnt) : S := match d with | false => { s with r := a } | true => { s with l := a }

def St (Rf : sProp 𝕄) (s : S) : sProp 𝕄 :=
  iprop(Ctx V ∗ Dir V c false s.r ∗ Dir V c true s.l ∗ (∃ W : Waits sig ℕ, owes (c : Thread nD τ) (OD c false s.r + OD c true s.l) W)
    ∗ (oM.view.loc (c : Thread nD τ) ↦{fullShare} accum V c s.n) ∗ (wLoc c ↦{wk} wF (V c)) ∗ Rf)

/-- Everything but one direction. -/
def Rest (Rf : sProp 𝕄) (d : Bool) (b : Cnt) (n : ℕ) : sProp 𝕄 :=
  iprop(Dir V c d b ∗ (oM.view.loc (c : Thread nD τ) ↦{fullShare} accum V c n) ∗ (wLoc c ↦{wk} wF (V c)) ∗ Rf)

theorem St_dir (Rf : sProp 𝕄) (d : Bool) (s : S) : St V c Rf s ⊢ DirO V c d (s.get d) (OD c (!d) (s.get !d)) (Rest V c Rf (!d) (s.get !d) s.n) := by
  unfold St DirO Rest
  cases d
  · iintro ⟨H1, H2, H3, H4, H5, H6, H7⟩
    iframe H1 H2 H3 H4 H5 H6 H7
  · show _ ⊢ iprop(_ ∗ _ ∗ (∃ W : Waits sig ℕ, owes (c : Thread nD τ) (OD c true s.l + OD c false s.r) W) ∗ _)
    rw [add_comm (OD c true s.l)]
    iintro ⟨H1, H2, H3, H4, H5, H6, H7⟩
    iframe H1 H2 H3 H4 H5 H6 H7
theorem dir_St (Rf : sProp 𝕄) (d : Bool) (s : S) (a : Cnt) :
    DirO V c d a (OD c (!d) (s.get !d)) (Rest V c Rf (!d) (s.get !d) s.n) ⊢ St V c Rf (s.set d a) := by
  unfold St DirO Rest
  cases d
  · iintro ⟨H1, H2, H4, H3, H5, H6, H7⟩
    iframe H1 H2 H3 H4 H5 H6 H7
  · show iprop(_ ∗ _ ∗ (∃ W : Waits sig ℕ, owes (c : Thread nD τ) (OD c true a + OD c false s.r) W) ∗ _) ⊢ _
    rw [add_comm (OD c true a)]
    iintro ⟨H1, H2, H4, H3, H5, H6, H7⟩
    iframe H1 H2 H3 H4 H5 H6 H7

section Moves
variable (d : Bool) (s : S)

theorem st_send (Rf : sProp 𝕄) {α : Type} {Q : α → sProp 𝕄} {k : PUnit → Prog (TpuEff nD τ sig (Elt F) Λ₀ .tc) α}
    {src dst : Memref sig .tc .vmem S256x256 .bf16} {c' : Dev nD} {sS sem : SemLoc sig} {hsc} {hsrc} {hdst} {hsem}
    (eS : sS = .dma (sSem d (s.get d).ns)) (eV : sem = .dma (rSem d (s.get d).ns))
    (h1 : (s.get d).ns < T d ∧ (s.get d).ns < max 16 (4 * (s.get d).nk) ∧ (s.get d).ns < (s.get d).nr + 4 ∧ (s.get d).nw ≤ (s.get d).ns ∧ (s.get d).ns < (s.get d).nw + 16)
    (hc : c' = nb d c) (esrc : src = srcM d (s.get d).ns) (edst : dst = chunkM d (s.get d).ns)
    (h : St V c Rf (s.set d { s.get d with ns := (s.get d).ns + 1 }) ⊢ WP c (k ⟨⟩) Q) :
    St V c Rf s ⊢ WP c (.op (.enqueueDma src (.remote (c' : Thread nD τ) dst sS hsc) sem hsrc hdst hsem) k) Q :=
  (St_dir V c Rf d s).trans (step_send V c d _ _ _ h1.1 h1.2.1 h1.2.2.1 h1.2.2.2 hc esrc edst eS eV ((dir_St V c Rf d s _).trans h))

theorem st_recv (Rf : sProp 𝕄) {α : Type} {Q : α → sProp 𝕄} {k : PUnit → Prog (TpuEff nD τ sig (Elt F) Λ₀ .tc) α}
    {src dst : Memref sig .tc .vmem S256x256 .bf16} {sem : DmaSem sig} {hsrc} {hdst}
    (eV : sem = rSem d (s.get d).nr)
    (h1 : (s.get d).nr < T d ∧ (s.get d).ns ≤ (s.get d).nr + 4 ∧ 4 * (s.get d).nc ≤ (s.get d).nr)
    (h2 : above d (s.get d) (2 * ((s.get d).nr / 4) + 4) ∧ above (!d) (s.get !d) (2 * ((s.get d).nr / 4) + 4))
    (hN : dst.view.dmaCredit = N)
    (h : St V c Rf (s.set d { s.get d with nr := (s.get d).nr + 1 }) ⊢ WP c (k ⟨⟩) Q) :
    St V c Rf s ⊢ WP c (.op (.waitDma2 sem src dst hsrc hdst) k) Q :=
  (St_dir V c Rf d s).trans (step_recv V c d _ _ _ h1.1 h1.2.1 h1.2.2 h2.1 (high_OD h2.2) eV hN ((dir_St V c Rf d s _).trans h))

theorem st_sent (Rf : sProp 𝕄) {α : Type} {Q : α → sProp 𝕄} {k : PUnit → Prog (TpuEff nD τ sig (Elt F) Λ₀ .tc) α}
    {src dst : Memref sig .tc .vmem S256x256 .bf16} {sem : DmaSem sig} {hsrc} {hdst}
    (eV : sem = sSem d (s.get d).nw)
    (h1 : (s.get d).nw < T d ∧ (s.get d).nw < (s.get d).ns ∧ ((s.get d).nw < 4 ∨ 4 * (s.get d).nc + 4 ≤ (s.get d).nw))
    (h2 : above d (s.get d) 0 ∧ above (!d) (s.get !d) 0)
    (hN : dst.view.dmaCredit = N)
    (h : St V c Rf (s.set d { s.get d with nw := (s.get d).nw + 1 }) ⊢ WP c (k ⟨⟩) Q) :
    St V c Rf s ⊢ WP c (.op (.waitDma2 sem src dst hsrc hdst) k) Q :=
  (St_dir V c Rf d s).trans (step_sent V c d _ _ _ h1.1 h1.2.1 h1.2.2 h2.1 (high_OD h2.2) eV hN ((dir_St V c Rf d s _).trans h))

theorem st_credit (Rf : sProp 𝕄) {α : Type} {Q : α → sProp 𝕄} {k : PUnit → Prog (TpuEff nD τ sig (Elt F) Λ₀ .tc) α} {sem : Sem sig} {n : ℤ}
    (eV : sem = cSem d)
    (h1 : (s.get d).nk < 4 + C d ∧ (s.get d).ns ≤ 4 * (s.get d).nk)
    (h2 : above d (s.get d) (ctag (s.get d).nk) ∧ above (!d) (s.get !d) (ctag (s.get d).nk))
    (en : n = ((1 : ℕ) : ℤ))
    (h : St V c Rf (s.set d { s.get d with nk := (s.get d).nk + 1 }) ⊢ WP c (k ⟨⟩) Q) :
    St V c Rf s ⊢ WP c (.op (.semWait sem n) k) Q :=
  (St_dir V c Rf d s).trans (step_credit V c d _ _ _ h1.1 h1.2 h2.1 (high_OD h2.2) eV en ((dir_St V c Rf d s _).trans h))

theorem st_signal (Rf : sProp 𝕄) {α : Type} {Q : α → sProp 𝕄} {k : PUnit → Prog (TpuEff nD τ sig (Elt F) Λ₀ .tc) α} {c' : Dev nD} {sem : Sem sig} {n : ℤ}
    (eV : sem = cSem d)
    (h1 : (s.get d).nc < C d ∧ 4 * (s.get d).nc + 4 ≤ (s.get d).nr ∧ 4 * (s.get d).nc + 8 ≤ (s.get d).nw)
    (hc : c' = nb (!d) c) (en : n = ((1 : ℕ) : ℤ))
    (h : St V c Rf (s.set d { s.get d with nc := (s.get d).nc + 1 }) ⊢ WP c (k ⟨⟩) Q) :
    St V c Rf s ⊢ WP c (.op (.semSignal (c' : Thread nD τ) sem n) k) Q :=
  (St_dir V c Rf d s).trans (step_signal V c d _ _ _ h1.1 h1.2.1 h1.2.2 hc eV en ((dir_St V c Rf d s _).trans h))

theorem set_get : s.set d (s.get d) = s := by cases d <;> rfl

theorem st_slot (Rf : sProp 𝕄) {α : Type} {Q : α → sProp 𝕄} (h : ℕ) (hs : h % 4 < 4)
    {k : ((sRect (h % 4) hs).toLoadRect.shape.Idx → Elt F .bf16) → Prog (TpuEff nD τ sig (Elt F) Λ₀ .tc) α} {hl}
    (h1 : (s.get d).nc ≤ h ∧ 4 * h + 4 ≤ (s.get d).nr)
    (hk : St V c Rf s ⊢ WP c (k (slotV (V (origin d h c)))) Q) :
    St V c Rf s ⊢ WP c (.op (.load (cM d) (sRect (h % 4) hs).toLoadRect hl) k) Q := by
  refine (St_dir V c Rf d s).trans (step_slot V c d _ _ _ h hs h1.1 h1.2 ((dir_St V c Rf d s _).trans ?_))
  rw [set_get]; exact hk

/-- The load of the slot landed last. -/
theorem st_last (Rf : sProp 𝕄) {α : Type} {Q : α → sProp 𝕄} (hs : ((s.get d).nr / 4 - 1) % 4 < 4)
    {k : ((sRect (((s.get d).nr / 4 - 1) % 4) hs).toLoadRect.shape.Idx → Elt F .bf16) → Prog (TpuEff nD τ sig (Elt F) Λ₀ .tc) α} {hl}
    (h1 : (s.get d).nc ≤ (s.get d).nr / 4 - 1 ∧ 4 * ((s.get d).nr / 4 - 1) + 4 ≤ (s.get d).nr)
    (hk : St V c Rf s ⊢ WP c (k (slotV (V (origin d ((s.get d).nr / 4 - 1) c)))) Q) :
    St V c Rf s ⊢ WP c (.op (.load (cM d) (sRect (((s.get d).nr / 4 - 1) % 4) hs).toLoadRect hl) k) Q :=
  st_slot V c d s Rf _ hs h1 hk

theorem st_own (Rf : sProp 𝕄) {α : Type} {Q : α → sProp 𝕄} {r : LoadRect S2x2x256x256}
    {k : (r.shape.Idx → Elt F .bf16) → Prog (TpuEff nD τ sig (Elt F) Λ₀ .tc) α} {hl}
    (hk : St V c Rf s ⊢ WP c (k (wM.view.readAt (Elt F) r (wF (V c)))) Q) :
    St V c Rf s ⊢ WP c (.op (.load wM r hl) k) Q := by
  unfold St at hk ⊢
  iintro ⟨H1, H2, H3, H4, H5, H6, H7⟩
  iapply (wp_load 𝒱₀ (c : Thread nD τ) none Set.univ (m := wM) (r := r) (hl := hl) (k := k) (Finset.subset_univ _)) $$ H6
  iintro H6
  iapply hk
  iframe H1 H2 H3 H4 H5 H6 H7

theorem st_out (Rf : sProp 𝕄) {α : Type} {Q : α → sProp 𝕄} {r : LoadRect S512x512}
    {k : (r.shape.Idx → Elt F .f32) → Prog (TpuEff nD τ sig (Elt F) Λ₀ .tc) α} {hl}
    (hk : St V c Rf s ⊢ WP c (k (oM.view.readAt (Elt F) r (accum V c s.n))) Q) :
    St V c Rf s ⊢ WP c (.op (.load oM r hl) k) Q := by
  unfold St at hk ⊢
  iintro ⟨H1, H2, H3, H4, H5, H6, H7⟩
  iapply (wp_load 𝒱₀ (c : Thread nD τ) none Set.univ (m := oM) (r := r) (hl := hl) (k := k) (Finset.subset_univ _)) $$ H5
  iintro H5
  iapply hk
  iframe H1 H2 H3 H4 H5 H6 H7

theorem st_store (Rf : sProp 𝕄) {α : Type} {Q : α → sProp 𝕄} {k : PUnit → Prog (TpuEff nD τ sig (Elt F) Λ₀ .tc) α}
    {w : (oRect s.n).shape.Idx → Elt F .f32} {hx} {hm}
    (hw : w = k0_pay1 (xg V c (aWord c s.n)) (aHalf V c s.n) (oM.view.readAt (Elt F) (oRect s.n).toLoadRect (accum V c s.n)))
    (hk : St V c Rf { s with n := s.n + 1 } ⊢ WP c (k ⟨⟩) Q) :
    St V c Rf s ⊢ WP c (.op (.store oM (oRect s.n) w Finset.univ hx hm) k) Q := by
  subst hw
  unfold St at hk ⊢
  iintro ⟨H1, H2, H3, H4, H5, H6, H7⟩
  iapply (wp_store 𝒱₀ (c : Thread nD τ) none Set.univ (m := oM) (r := oRect s.n) (hx := hx) (hm := hm) (k := k) (Finset.subset_univ _)) $$ H5
  iintro H5
  iapply hk
  iframe H1 H2 H3 H4 H5 H6 H7

end Moves

end Cert.RingProof

end
-- ==== Proof.Prelude.lean ====
module

public import proofs.«01_k».proof.Proof.Track

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (V : Dev nD → Inp F) (c : Dev nD)

/-! ## The first handshake -/

theorem p_dev {α : Type} {Q : α → sProp 𝕄} {P : sProp 𝕄} {k : Dev nD → Prog (TpuEff nD τ sig (Elt F) Λ₀ .tc) α} (h : P ⊢ WP c (k c) Q) :
    P ⊢ WP c (.op .deviceId k) Q := by
  refine h.trans (Entails.of_eq ?_)
  exact (wp_deviceId (defs := defs₀ (F := F)) 𝒱₀ (c : Thread nD τ) none Set.univ (k := k)).symm

theorem p_ret {α : Type} {Q : α → sProp 𝕄} {P : sProp 𝕄} {x : α} (h : P ⊢ |={Set.univ}[frame]=> Q x) : P ⊢ WP c (.ret x) Q := by
  refine h.trans (Entails.of_eq ?_)
  rw [WP, wp_ret]

/-- Before the ring starts: what is owed, what the handshake takes, the rest. -/
def Sy (O : CellTallies nD τ sig ℕ) (X R : sProp 𝕄) : sProp 𝕄 :=
  iprop(Ctx V ∗ (∃ W : Waits sig ℕ, owes (c : Thread nD τ) O W) ∗ X ∗ R)

theorem sy_signal (d : Bool) {α : Type} {Q : α → sProp 𝕄} {k : PUnit → Prog (TpuEff nD τ sig (Elt F) Λ₀ .tc) α} {c' : Dev nD} {sem : Sem sig} {n : ℤ}
    (O : CellTallies nD τ sig ℕ) (X R : sProp 𝕄) (hc : c' = nb (!d) c) (eV : sem = bSem) (en : n = ((1 : ℕ) : ℤ))
    (h : Sy V c O X R ⊢ WP c (k ⟨⟩) Q) :
    Sy V c (O + tallyAt (bCell (nb (!d) c)) 1 1)
        iprop((dutyTok ER (bCell (nb (!d) c)) 0 d.toNat ∗ bigSep (Finset.range 16) fun j => cAny (F := F) d j c) ∗ X) R
      ⊢ WP c (.op (.semSignal (c' : Thread nD τ) sem n) k) Q := by
  subst hc eV en
  unfold Sy at h ⊢
  iintro ⟨#Hctx, ⟨%W, HO⟩, ⟨⟨Htok, HB⟩, HX⟩, HR⟩
  ihave #HI1 := (ctx_cell V _ _ (bCell_eq (nb (!d) c))) $$ Hctx
  ihave #Hr := (ctx_reached V _ _ (bCell_eq (nb (!d) c))) $$ Hctx
  unfold CInv
  icases HI1 with ⟨%κ1, #HI1⟩
  have hp : (bigSep (Finset.range 16) fun j => cAny (F := F) d j c) = (Rd V).payload (bCell (nb (!d) c)) 0 d.toNat := by
    rw [payload_b V (nb (!d) c) d]; unfold barPay; rw [nb_nb']
  iapply (Rounds.wp_signal 𝒱₀ ER (Rd V) (c : Thread nD τ) none (dst := (nb (!d) c : Thread nD τ)) (sem := bSem) (r := 0) (d := d.toNat) (k' := 1) (κ := κ1)
      (by rw [duties_b]; cases d <;> decide) (amount_b V (nb (!d) c) d.toNat)
      1 (O₀ := O + tallyAt (bCell (nb (!d) c)) 1 1) (W := W) O rfl) $$ [HO Htok HB]
  · isplitr; · iexact HI1
    isplitl [HO]; · iexact HO
    isplitl [Htok]; · iexact Htok
    isplitl [HB]
    · iapply (Entails.of_eq hp) $$ HB
    · iexact Hr
  iintro HO
  iapply h
  iframe Hctx HX HR
  iexists W; iexact HO

theorem sy_wait {α : Type} {Q : α → sProp 𝕄} {k : PUnit → Prog (TpuEff nD τ sig (Elt F) Λ₀ .tc) α} {sem : Sem sig} {n : ℤ}
    (O : CellTallies nD τ sig ℕ) (X R : sProp 𝕄) (hO : High 1 O) (eV : sem = bSem) (en : n = ((2 : ℕ) : ℤ))
    (h : Sy V c O X iprop((atPos ER (bCell c) 1 ∅ 0 ∗ barPay false c ∗ barPay true c) ∗ R) ⊢ WP c (k ⟨⟩) Q) :
    Sy V c O iprop((cred (tallyAt (bCell c) 1 2) ∗ atPos ER (bCell c) 0 ∅ 0) ∗ X) R ⊢ WP c (.op (.semWait sem n) k) Q := by
  subst eV en
  unfold Sy at h ⊢
  iintro ⟨#Hctx, ⟨%W, HO⟩, ⟨⟨Hcr, Hat⟩, HX⟩, HR⟩
  ihave #HI1 := (ctx_cell V _ _ (bCell_eq c)) $$ Hctx
  unfold CInv
  icases HI1 with ⟨%κ1, #HI1⟩
  ihave #Hlev := (ctx_wait V c (.reg bSem) 1 (by decide) O hO) $$ Hctx
  iapply (Rounds.wp_wait_rest_token 𝒱₀ ER (Rd V) (c : Thread nD τ) none (κ := κ1) (wpE_semWait_eq 𝒱₀ (c : Thread nD τ) none Set.univ) (Set.mem_univ κ1) 1 (O := O) (W := W)
      (R := 0) (m := 0) (T := ∅) (k' := 2) (by rw [expect_b])) $$ [HO Hat Hcr]
  · isplitr; · iexact HI1
    isplitl [Hcr]; · iexact Hcr
    isplitl [HO]; · iexact HO
    isplitr; · iexact Hlev
    iexact Hat
  iintro ⟨HO, Hat, -, HP⟩
  have hp : bigSep ((Rd V).duties (bCell c) 0 \ ∅) (fun d => (Rd V).payload (bCell c) 0 d) ⊢ iprop(barPay (F := F) false c ∗ barPay true c) := by
    rw [duties_b, Finset.sdiff_empty]
    iintro H
    ihave H := (Entails.of_eq (bigSep_range_succ 1 fun d => (Rd V).payload (bCell c) 0 d)) $$ H
    icases H with ⟨H1, H0⟩
    ihave H0 := (bs_elim (s := Finset.range 1) (i := 0) (by decide) fun d => (Rd V).payload (bCell c) 0 d) $$ H0
    isplitl [H0]
    · iapply (Entails.of_eq (show (Rd V).payload (bCell c) 0 0 = barPay false c from payload_b V c false)) $$ H0
    · iapply (Entails.of_eq (show (Rd V).payload (bCell c) 0 1 = barPay true c from payload_b V c true)) $$ H1
  ihave HP := hp $$ HP
  icases HP with ⟨H0, H1⟩
  iapply h
  iframe Hctx HX HR H0 H1 Hat
  iexists _; iexact HO

theorem sy_credit (d : Bool) {α : Type} {Q : α → sProp 𝕄} {k : PUnit → Prog (TpuEff nD τ sig (Elt F) Λ₀ .tc) α} {c' : Dev nD} {sem : Sem sig} {n : ℤ}
    (O : CellTallies nD τ sig ℕ) (X R : sProp 𝕄) (hc : c' = nb (!d) c) (eV : sem = cSem d) (en : n = ((4 : ℕ) : ℤ))
    (h : Sy V c O X R ⊢ WP c (k ⟨⟩) Q) :
    Sy V c (O + tallyAt (cCell d (nb (!d) c)) 2 4) iprop(dutyTok ER (cCell d (nb (!d) c)) 0 0 ∗ X) R
      ⊢ WP c (.op (.semSignal (c' : Thread nD τ) sem n) k) Q := by
  subst hc eV en
  unfold Sy at h ⊢
  iintro ⟨#Hctx, ⟨%W, HO⟩, ⟨Htok, HX⟩, HR⟩
  ihave #HI1 := (ctx_cell V _ _ (cCell_eq d (nb (!d) c))) $$ Hctx
  ihave #Hr := (ctx_reached V _ _ (cCell_eq d (nb (!d) c))) $$ Hctx
  unfold CInv
  icases HI1 with ⟨%κ1, #HI1⟩
  have hp : (emp : sProp 𝕄) ⊢ (Rd V).payload (cCell d (nb (!d) c)) 0 0 := by
    rw [payload_c V d (nb (!d) c) 0]; unfold credPay
    rw [Finset.range_zero]; exact Entails.of_eq bigSep_empty.symm
  iapply (Rounds.wp_signal 𝒱₀ ER (Rd V) (c : Thread nD τ) none (dst := (nb (!d) c : Thread nD τ)) (sem := cSem d) (r := 0) (d := 0) (k' := 4) (κ := κ1)
      (by rw [duties_c]; exact Finset.mem_range.mpr (by omega)) ((amount_c V d (nb (!d) c) 0).trans (if_pos rfl))
      2 (O₀ := O + tallyAt (cCell d (nb (!d) c)) 2 4) (W := W) O rfl) $$ [HO Htok]
  · isplitr; · iexact HI1
    isplitl [HO]; · iexact HO
    isplitl [Htok]; · iexact Htok
    isplitr
    · iapply hp; iempintro
    · iexact Hr
  iintro HO
  iapply h
  iframe Hctx HX HR
  iexists W; iexact HO

/-! ## The own weights -/

theorem inb_eRect (n : ℕ) : ∀ a, (![n % 2, 0, 256 * (n % 4 / 2)] : Fin 3 → ℕ) a + S1x256x256.size a ≤ S2x256x512.size a := by
  intro a; fin_cases a
  · show n % 2 + 1 ≤ 2; omega
  · show 0 + 256 ≤ 256; omega
  · show 256 * (n % 4 / 2) + 256 ≤ 512; omega
/-- Where chunk `n` of the own weights is loaded from, and what is stored for it. -/
abbrev eRect (n : ℕ) : Rect S2x256x512 := Rect.unit ![n % 2, 0, 256 * (n % 4 / 2)] S1x256x256.size (inb_eRect n)
def packed (v : Inp F) (n : ℕ) : (wRect n).shape.Idx → Elt F .bf16 :=
  shapeCast S1x1x256x256 (truncf .bf16 (shapeCast S256x256 (eM.view.readAt (Elt F) (eRect n).toLoadRect v.e : FVec F S1x256x256 .f32) shapeCasts_S1x256x256_S256x256) bitsLt_bf16_f32) shapeCasts_S256x256_S1x1x256x256

theorem packed_eq (v : Inp F) (n : ℕ) (k : S1x1x256x256.Idx) : packed v n k = cv v n (fun a => k a.succ.succ) := by
  have h0 : (k 0 : ℕ) = 0 := by have : (k 0 : ℕ) < 1 := (k 0).isLt; omega
  have h1 : (k 1 : ℕ) = 0 := by have : (k 1 : ℕ) < 1 := (k 1).isLt; omega
  set kk : S256x256.Idx := fun a => k a.succ.succ with hkk
  unfold packed
  refine (shapeCast_apply _ shapeCasts_S256x256_S1x1x256x256 k kk ?_).trans ?_
  · refine Eq.symm ?_
    show (Shape.rowMajorPi (Matrix.vecCons 1 (Matrix.vecCons 1 ![256, 256])) k).val = (Shape.rowMajorPi ![256, 256] kk).val
    refine (Shape.rowMajorPi_succ_val _ _).trans ?_
    show (k 0 : ℕ) * _ + (Shape.rowMajorPi (Matrix.vecCons 1 ![256, 256]) fun a => k a.succ).val = _
    rw [h0, Nat.zero_mul, Nat.zero_add]
    refine (Shape.rowMajorPi_succ_val _ _).trans ?_
    show (k 1 : ℕ) * _ + (Shape.rowMajorPi ![256, 256] kk).val = _
    rw [h1, Nat.zero_mul, Nat.zero_add]
  · have e : shapeCast S256x256 (eM.view.readAt (Elt F) (eRect n).toLoadRect v.e : FVec F S1x256x256 .f32) shapeCasts_S1x256x256_S256x256 kk
        = v.e (eIdx (n % 4 / 2) (n % 2) (kk 0) (kk 1)) := by
      refine (shapeCast_apply _ shapeCasts_S1x256x256_S256x256 kk (Fin.cons ⟨0, Nat.one_pos⟩ kk) ?_).trans ?_
      · show (Shape.rowMajorPi (Matrix.vecCons 1 ![256, 256]) (Fin.cons ⟨0, Nat.one_pos⟩ kk)).val = (Shape.rowMajorPi ![256, 256] kk).val
        rw [Shape.rowMajorPi_succ_val]
        show 0 * _ + (Shape.rowMajorPi ![256, 256] kk).val = _
        simp
      · show v.e ((eRect n).emb _) = _
        congr 1
        funext a
        refine Fin.ext ?_
        refine (emb_unit_val (s := S2x256x512) ![n % 2, 0, 256 * (n % 4 / 2)] _ (inb_eRect n) _ a).trans ?_
        have k0 : (kk 0 : ℕ) < 256 := (kk 0).isLt
        have k1 : (kk 1 : ℕ) < 256 := (kk 1).isLt
        fin_cases a
        · show n % 2 + 0 = n % 2 % 2; omega
        · show 0 + (kk 0 : ℕ) = (kk 0 : ℕ) % 256; omega
        · show 256 * (n % 4 / 2) + (kk 1 : ℕ) = (256 * (n % 4 / 2) + (kk 1 : ℕ)) % 512; omega
    unfold cv
    exact congrArg (FloatOps.truncf (F := F) (φ := .f32) .bf16 bitsLt_bf16_f32) e

/-- The first `n` chunks of the own weights are rounded. -/
def Wt (n : ℕ) (R : sProp 𝕄) : sProp 𝕄 :=
  iprop(∃ f : Buf (Elt F) (wLoc c), ⌜∀ ix : S2x2x256x256.Idx, 2 * (ix 0 : ℕ) + (ix 1 : ℕ) < n → f ix = wF (V c) ix⌝
    ∗ (wLoc c ↦{fullShare} f) ∗ (eM.view.loc (c : Thread nD τ) ↦{fullShare} (V c).e) ∗ R)

section WtMoves
variable (n : ℕ)

theorem wt_e (R : sProp 𝕄) {α : Type} {Q : α → sProp 𝕄} {r : LoadRect S2x256x512} {k : (r.shape.Idx → Elt F .f32) → Prog (TpuEff nD τ sig (Elt F) Λ₀ .tc) α} {hl}
    (h : Wt V c n R ⊢ WP c (k (eM.view.readAt (Elt F) r (V c).e)) Q) : Wt V c n R ⊢ WP c (.op (.load eM r hl) k) Q := by
  unfold Wt at h ⊢
  iintro ⟨%f, %hf, H1, H2, HR⟩
  iapply (wp_load 𝒱₀ (c : Thread nD τ) none Set.univ (m := eM) (r := r) (hl := hl) (k := k) (Finset.subset_univ _)) $$ H2
  iintro H2
  iapply h
  iexists f; iframe H1 H2 HR
  ipureintro; exact hf

theorem wt_w (R : sProp 𝕄) {α : Type} {Q : α → sProp 𝕄} {r : LoadRect S2x2x256x256} {k : (r.shape.Idx → Elt F .bf16) → Prog (TpuEff nD τ sig (Elt F) Λ₀ .tc) α} {hl}
    (h : ∀ v, Wt V c n R ⊢ WP c (k v) Q) : Wt V c n R ⊢ WP c (.op (.load wM r hl) k) Q := by
  unfold Wt at h ⊢
  iintro ⟨%f, %hf, H1, H2, HR⟩
  iapply (wp_load 𝒱₀ (c : Thread nD τ) none Set.univ (m := wM) (r := r) (hl := hl) (k := k) (Finset.subset_univ _)) $$ H1
  iintro H1
  iapply (h _)
  iexists f; iframe H1 H2 HR
  ipureintro; exact hf

theorem wt_store (R : sProp 𝕄) {α : Type} {Q : α → sProp 𝕄} {k : PUnit → Prog (TpuEff nD τ sig (Elt F) Λ₀ .tc) α} {w : (wRect n).shape.Idx → Elt F .bf16} {hx} {hm}
    (hn : n < 4) (hw : w = packed (V c) n) (h : Wt V c (n + 1) R ⊢ WP c (k ⟨⟩) Q) : Wt V c n R ⊢ WP c (.op (.store wM (wRect n) w Finset.univ hx hm) k) Q := by
  subst hw
  unfold Wt at h ⊢
  iintro ⟨%f, %hf, H1, H2, HR⟩
  iapply (wp_store 𝒱₀ (c : Thread nD τ) none Set.univ (m := wM) (r := wRect n) (hx := hx) (hm := hm) (k := k) (Finset.subset_univ _)) $$ H1
  iintro H1
  iapply h
  iexists _; iframe H1 H2 HR
  ipureintro
  intro ix hix
  have i1 : (ix 1 : ℕ) < 2 := (ix 1).isLt
  have hset : (wM.access (wRect n)).set = (wRect n).set := View.set_slice_whole _ _
  by_cases hm : ix ∈ (wRect n).set
  · have hz := (mem_wchunk n _).mp hm
    rw [← hset] at hm
    obtain ⟨k, -, rfl⟩ := Finset.mem_map.mp hm
    refine (View.write_emb_of_mem (v := wM.access (wRect n)) (Val := Elt F) f (packed (V c) n) (Finset.mem_univ k)).trans ?_
    show packed (V c) n k = _
    rw [packed_eq]
    refine (wF_eq (V c) n _ _ hz.1 hz.2 ?_ ?_).symm
    · exact (emb_unit_val (s := S2x2x256x256) ![n % 4 / 2, n % 2, 0, 0] _ (inb_wchunk n) k 2).trans (Nat.zero_add _)
    · exact (emb_unit_val (s := S2x2x256x256) ![n % 4 / 2, n % 2, 0, 0] _ (inb_wchunk n) k 3).trans (Nat.zero_add _)
  · refine (View.write_of_not_mem (v := wM.access (wRect n)) (Val := Elt F) f (packed (V c) n) Finset.univ (i := ix) ?_).trans (hf ix ?_)
    · intro hc; refine hm ?_
      rw [← hset]; exact hc
    · rw [mem_wchunk] at hm; omega
end WtMoves

/-! ## The inputs and the empty accumulator -/

/-- The inputs beside the output's staging buffer, at whatever it holds (`none`) or cleared. -/
def Ot (R : sProp 𝕄) : sProp 𝕄 :=
  iprop((xM.view.loc (c : Thread nD τ) ↦{fullShare} (V c).x) ∗ (gM.view.loc (c : Thread nD τ) ↦{fullShare} (V c).g)
    ∗ (iM.view.loc (c : Thread nD τ) ↦{fullShare} (V c).i) ∗ (∃ f : Buf (Elt F) (oM.view.loc (c : Thread nD τ)), oM.view.loc (c : Thread nD τ) ↦{fullShare} f) ∗ R)

theorem ot_x (R : sProp 𝕄) {α : Type} {Q : α → sProp 𝕄} {r : LoadRect S512x256} {k : (r.shape.Idx → Elt F .f32) → Prog (TpuEff nD τ sig (Elt F) Λ₀ .tc) α} {hl}
    (v : r.shape.Idx → Elt F .f32) (hv : xM.view.readAt (Elt F) r (V c).x = v)
    (h : Ot V c R ⊢ WP c (k v) Q) : Ot V c R ⊢ WP c (.op (.load xM r hl) k) Q := by
  subst hv
  unfold Ot at h ⊢
  iintro ⟨H1, H2, H3, H4, HR⟩
  iapply (wp_load 𝒱₀ (c : Thread nD τ) none Set.univ (m := xM) (r := r) (hl := hl) (k := k) (Finset.subset_univ _)) $$ H1
  iintro H1
  iapply h
  iframe H1 H2 H3 H4 HR
theorem ot_g (R : sProp 𝕄) {α : Type} {Q : α → sProp 𝕄} {r : LoadRect S256x32} {k : (r.shape.Idx → Elt F .f32) → Prog (TpuEff nD τ sig (Elt F) Λ₀ .tc) α} {hl}
    (v : r.shape.Idx → Elt F .f32) (hv : gM.view.readAt (Elt F) r (V c).g = v)
    (h : Ot V c R ⊢ WP c (k v) Q) : Ot V c R ⊢ WP c (.op (.load gM r hl) k) Q := by
  subst hv
  unfold Ot at h ⊢
  iintro ⟨H1, H2, H3, H4, HR⟩
  iapply (wp_load 𝒱₀ (c : Thread nD τ) none Set.univ (m := gM) (r := r) (hl := hl) (k := k) (Finset.subset_univ _)) $$ H2
  iintro H2
  iapply h
  iframe H1 H2 H3 H4 HR
theorem ot_i (R : sProp 𝕄) {α : Type} {Q : α → sProp 𝕄} {r : LoadRect S512x2} {k : (r.shape.Idx → Elt F .i32) → Prog (TpuEff nD τ sig (Elt F) Λ₀ .tc) α} {hl}
    (v : r.shape.Idx → Elt F .i32) (hv : iM.view.readAt (Elt F) r (V c).i = v)
    (h : Ot V c R ⊢ WP c (k v) Q) : Ot V c R ⊢ WP c (.op (.load iM r hl) k) Q := by
  subst hv
  unfold Ot at h ⊢
  iintro ⟨H1, H2, H3, H4, HR⟩
  iapply (wp_load 𝒱₀ (c : Thread nD τ) none Set.univ (m := iM) (r := r) (hl := hl) (k := k) (Finset.subset_univ _)) $$ H3
  iintro H3
  iapply h
  iframe H1 H2 H3 H4 HR
theorem ot_o (R : sProp 𝕄) {α : Type} {Q : α → sProp 𝕄} {r : LoadRect S512x512} {k : (r.shape.Idx → Elt F .f32) → Prog (TpuEff nD τ sig (Elt F) Λ₀ .tc) α} {hl}
    (h : ∀ v, Ot V c R ⊢ WP c (k v) Q) : Ot V c R ⊢ WP c (.op (.load oM r hl) k) Q := by
  unfold Ot at h ⊢
  iintro ⟨H1, H2, H3, ⟨%f, H4⟩, HR⟩
  iapply (wp_load 𝒱₀ (c : Thread nD τ) none Set.univ (m := oM) (r := r) (hl := hl) (k := k) (Finset.subset_univ _)) $$ H4
  iintro H4
  iapply (h _)
  iframe H1 H2 H3 HR
  iexists f; iexact H4

/-! ## Into the ring's state -/

/-- What a direction starts from, beside the neighbour's landing buffer and the own weights. -/
def DirRest (d : Bool) : sProp 𝕄 :=
  iprop(bigSep (Finset.Ico 0 (T d)) (E1 (F := F) d c)
    ∗ bigSep (Finset.Ico 0 (T d)) (E6 (F := F) d c)
    ∗ bigSep (Finset.Ico 0 16) (E7 (F := F) d c)
    ∗ bigSep (Finset.Ico 0 16) (E9 (F := F) d c)
    ∗ atPos ER (cCell d c) 0 ∅ 0
    ∗ bigSep (Finset.Ico 0 (4 + C d)) (E11 (F := F) d c)
    ∗ bigSep (Finset.Ico 0 (C d)) (E12 (F := F) d c)
    ∗ bigSep (Finset.Ico 0 (C d)) (E13 (F := F) d c)
    ∗ bigSep (Finset.Ico 1 (C d + 1)) (E14 (F := F) d c))

theorem bar_E2 (d : Bool) : iprop(Ctx V ∗ barPay (F := F) d c) ⊢ bigSep (Finset.Ico 0 16) (E2 (F := F) d c) := by
  have hr : Ctx V ⊢ bigSep (Finset.range 16) fun i => (reached ER (rCell d i (nb d c)) (i / 16) : sProp 𝕄) := by
    refine bigSep_intro_persistent fun i hi => ?_
    rw [Nat.div_eq_of_lt (Finset.mem_range.mp hi)]
    exact ctx_reached V _ _ (rCell_eq d i (nb d c))
  rw [← Finset.range_eq_Ico]
  iintro ⟨H, HB⟩
  ihave H := hr $$ H
  unfold barPay
  iapply (bs_sep (fun j => cAny (F := F) d j (nb d c)) _) $$ [HB H]
  iframe HB H

theorem CPos_start (d : Bool) : atPos ER (cCell d c) 0 ∅ 0 ⊢ CPos (F := F) d c 0 := by
  rw [CPos_lt c d (by omega)]
  iintro H
  iexists (∅ : Finset ℕ)
  isplitr
  · ipureintro
    refine ⟨Finset.empty_subset _, ?_⟩
    rw [Finset.sdiff_empty, Finset.card_range]; omega
  isplitl [H]; · iexact H
  iapply (Entails.of_eq bigSep_empty.symm); iempintro

theorem dir_start (d : Bool) : iprop(Ctx V ∗ DirRest (F := F) c d ∗ barPay (F := F) d c ∗ bigSep (Finset.Ico 0 4) fun i => srcPay V d i c)
    ⊢ Dir V c d ⟨0, 0, 0, 0, 0⟩ := by
  unfold DirRest Dir
  iintro ⟨#Hctx, ⟨A1, A6, A7, A9, A10, A11, A12, A13, A14⟩, HB, A3⟩
  ihave A2 := (bar_E2 V c d) $$ [HB]
  · iframe Hctx HB
  ihave A10 := (CPos_start c d) $$ A10
  have e1 : max 16 (4 * 0) = 16 := rfl
  have e2 : (Finset.range 0).filter (fun i => i < 4 ∨ 4 * 0 + 4 ≤ i) = ∅ := rfl
  simp only [e1, e2, Nat.mul_zero, Nat.zero_add, Finset.Ico_self, Nat.sub_zero, Nat.zero_sub, Finset.range_zero]
  iframe A1 A2 A3 A6 A7 A9 A10 A11 A12 A13 A14
  isplitr
  · iapply (Entails.of_eq bigSep_empty.symm); iempintro
  isplitr
  · iapply (Entails.of_eq bigSep_empty.symm); iempintro
  isplitr
  · iapply (Entails.of_eq bigSep_empty.symm); iempintro
  iapply (Entails.of_eq bigSep_empty.symm); iempintro

/-- The rounded weights are cut into chunks, each split between the two directions and the loads. -/
theorem w_split (q : PosShare TreeShare) : (wLoc c ↦{q} wF (V c) : sProp 𝕄) = bigSep (Finset.Ico 0 4) fun i => wPts i c q (V c) := by
  rw [← Finset.range_eq_Ico]
  refine (congrArg (fun s => (wLoc c ↦[s]{q} wF (V c) : sProp 𝕄)) (wSet_univ c).symm).trans ?_
  refine pointsTo_biUnion _ _ fun i hi j hj hij => wSet_disjoint c ?_
  rw [Finset.mem_range] at hi hj; omega
theorem w_srcPay (d : Bool) : (wLoc c ↦{wq d} wF (V c) : sProp 𝕄) ⊢ bigSep (Finset.Ico 0 4) fun i => srcPay V d i c := by
  rw [w_split]
  refine bs_mono fun i hi => ?_
  unfold srcPay; rw [if_pos (Finset.mem_Ico.mp hi).2]
theorem w_shares (f : Buf (Elt F) (wLoc c)) : (wLoc c ↦{fullShare} f : sProp 𝕄) ⊢ iprop((wLoc c ↦{wq false} f) ∗ (wLoc c ↦{wq true} f) ∗ (wLoc c ↦{wk} f)) := by
  iintro H
  ihave H := (pointsTo_share (PosShare.mem_left_op_right fullShare)).1 $$ H
  icases H with ⟨H1, H⟩
  ihave H := (pointsTo_share (PosShare.mem_left_op_right fullShare.right)).1 $$ H
  icases H with ⟨H2, H3⟩
  isplitl [H1]; · iexact H1
  isplitl [H2]; · iexact H2
  iexact H3

/-- What the ring's state keeps aside. -/
def Keep : sProp 𝕄 :=
  iprop((eM.view.loc (c : Thread nD τ) ↦{fullShare} (V c).e) ∗ (xM.view.loc (c : Thread nD τ) ↦{fullShare} (V c).x) ∗ (gM.view.loc (c : Thread nD τ) ↦{fullShare} (V c).g)
    ∗ (iM.view.loc (c : Thread nD τ) ↦{fullShare} (V c).i) ∗ atPos ER (bCell c) 1 ∅ 0)
/-- What waits beside the handshake, beside the weights, beside the inputs. -/
def Z0 : sProp 𝕄 :=
  iprop((DirRest c false ∗ DirRest c true ∗ (∃ f : Buf (Elt F) (wLoc c), wLoc c ↦{fullShare} f) ∗ (eM.view.loc (c : Thread nD τ) ↦{fullShare} (V c).e)) ∗ Ot V c iprop(emp))
def Z1 (O : CellTallies nD τ sig ℕ) : sProp 𝕄 :=
  iprop((Ctx V ∗ (∃ W : Waits sig ℕ, owes (c : Thread nD τ) O W) ∗ (atPos ER (bCell c) 1 ∅ 0 ∗ barPay false c ∗ barPay true c) ∗ DirRest c false ∗ DirRest c true) ∗ Ot V c iprop(emp))
def Z2 (O : CellTallies nD τ sig ℕ) : sProp 𝕄 :=
  iprop((wLoc c ↦{fullShare} wF (V c)) ∗ (eM.view.loc (c : Thread nD τ) ↦{fullShare} (V c).e) ∗
    Ctx V ∗ (∃ W : Waits sig ℕ, owes (c : Thread nD τ) O W) ∗ (atPos ER (bCell c) 1 ∅ 0 ∗ barPay false c ∗ barPay true c) ∗ DirRest c false ∗ DirRest c true)

theorem sy_wt (O : CellTallies nD τ sig ℕ) : Sy V c O iprop(emp) iprop((atPos ER (bCell c) 1 ∅ 0 ∗ barPay false c ∗ barPay true c) ∗ Z0 V c) ⊢ Wt V c 0 (Z1 V c O) := by
  unfold Sy Z0 Wt Z1
  iintro ⟨H1, H2, -, H3, ⟨H4, H5, ⟨%f, H6⟩, H7⟩, H8⟩
  iexists f
  iframe H1 H2 H3 H4 H5 H6 H7 H8
  ipureintro; intro ix h; omega

theorem wt_ot (O : CellTallies nD τ sig ℕ) : Wt V c 4 (Z1 V c O) ⊢ Ot V c (Z2 V c O) := by
  unfold Wt Z1 Z2 Ot
  iintro ⟨%f, %hf, H1, H2, H3, K1, K2, K3, K4, -⟩
  have e : f = wF (V c) := funext fun (ix : S2x2x256x256.Idx) => hf ix (by
    have h0 : (ix 0 : ℕ) < 2 := (ix 0).isLt
    have h1 : (ix 1 : ℕ) < 2 := (ix 1).isLt
    omega)
  subst e
  iframe H1 H2 H3 K1 K2 K3 K4

theorem ot_zero {α : Type} {Q : α → sProp 𝕄} {inb : ∀ a, (![0, 0] : Fin 2 → ℕ) a + S512x512.size a ≤ S512x512.size a}
    {k : PUnit → Prog (TpuEff nD τ sig (Elt F) Λ₀ .tc) α} {hx} {hm}
    (h : St V c (Keep V c) ⟨⟨0, 0, 0, 0, 0⟩, ⟨0, 0, 0, 0, 0⟩, 0⟩ ⊢ WP c (k ⟨⟩) Q) :
    Ot V c (Z2 V c (OD c false ⟨0, 0, 0, 0, 0⟩ + OD c true ⟨0, 0, 0, 0, 0⟩))
      ⊢ WP c (.op (.store oM (Rect.unit (s := S512x512) ![0, 0] S512x512.size inb) (k0_pay18 (F := F)) Finset.univ hx hm) k) Q := by
  unfold Ot Z2
  unfold St at h
  iintro ⟨H1, H2, H3, ⟨%f, H4⟩, W, HE, #Hctx, HO, ⟨Hat, B0, B1⟩, D0, D1⟩
  iapply (wp_store 𝒱₀ (c : Thread nD τ) none Set.univ (m := oM) (r := Rect.unit (s := S512x512) ![0, 0] S512x512.size inb) (hx := hx) (hm := hm) (k := k) (Finset.subset_univ _)) $$ H4
  iintro H4
  have e : (oM.access (Rect.unit (s := S512x512) ![0, 0] S512x512.size inb)).write (Elt F) f (k0_pay18 (F := F)) Finset.univ = accum V c 0 :=
    Memref.write_access_unit_zero_univ (Elt F) cc0_stg4_0 (off := ![0, 0]) (by funext a; fin_cases a <;> rfl) inb f _
  ihave H4 := (Entails.of_eq (congrArg (fun g => (oM.view.loc (c : Thread nD τ) ↦{fullShare} g : sProp 𝕄)) e)) $$ H4
  ihave W := (w_shares c (wF (V c))) $$ W
  icases W with ⟨W0, W1, W2⟩
  ihave W0 := (w_srcPay V c false) $$ W0
  ihave W1 := (w_srcPay V c true) $$ W1
  ihave D0 := (dir_start V c false) $$ [D0 B0 W0]
  · iframe Hctx D0 B0 W0
  ihave D1 := (dir_start V c true) $$ [D1 B1 W1]
  · iframe Hctx D1 B1 W1
  iapply h
  unfold Keep
  iframe Hctx D0 D1 HO H4 W2 HE H1 H2 H3 Hat

end Cert.RingProof

end
-- ==== Proof.End.lean ====
/-
# The end of the ring

All sends, landings and completions waited for: the landing buffers and the own weights are whole again, nothing is
owed, and every cell is closed at zero.
-/
module

public import proofs.«01_k».proof.Proof.Prelude

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (V : Dev nD → Inp F) (c : Dev nD)

/-! ## Families over the cells of one device -/

set_option backward.proofsInPublic true in
/-- The cell numbered `j` on device `c`. -/
def jcell (c : Dev nD) (j : ℕ) : GSem nD τ sig := kcell (c, ⟨j % 67, Nat.mod_lt _ (by decide)⟩)

theorem bs_fin {n : ℕ} (A : ℕ → sProp 𝕄) : (bigSep (Finset.univ : Finset (Fin n)) fun k => A k.val) = bigSep (Finset.Ico 0 n) A := by
  have e : Finset.Ico 0 n = (Finset.univ : Finset (Fin n)).map Fin.valEmbedding := by
    rw [Fin.map_valEmbedding_univ]; ext x; simp
  rw [e, bigSep_map]; rfl

theorem bs_image {s : Finset ℕ} {f : ℕ → ℕ} (hf : Set.InjOn f s) (A : ℕ → sProp 𝕄) : bigSep (s.image f) A = bigSep s fun i => A (f i) := by
  induction s using Finset.induction_on with
  | empty => rw [Finset.image_empty, bigSep_empty, bigSep_empty]
  | insert a s ha ih =>
    rw [Finset.image_insert, bigSep_insert ha, ← ih (hf.mono (Finset.coe_subset.mpr (Finset.subset_insert _ _)))]
    refine bigSep_insert fun h => ha ?_
    obtain ⟨b, hb, e⟩ := Finset.mem_image.mp h
    have e' : b = a := hf (Finset.mem_coe.mpr (Finset.mem_insert_of_mem hb)) (Finset.mem_coe.mpr (Finset.mem_insert_self a s)) e
    subst e'; exact hb

/-- Sixteen consecutive chunk numbers name the sixteen chunks. -/
theorem bs_mod (n : ℕ) (A : ℕ → sProp 𝕄) (h : ∀ i, A (i % 16) = A i) : bigSep (Finset.Ico n (n + 16)) A = bigSep (Finset.Ico 0 16) A := by
  have e : Finset.Ico 0 16 = (Finset.Ico n (n + 16)).image (· % 16) := by
    rw [Nat.image_Ico_mod, Finset.range_eq_Ico]
  rw [e, bs_image (Nat.mod_injOn_Ico n 16)]
  exact bigSep_congr fun i _ => (h i).symm

theorem jcell_s (d : Bool) (i : ℕ) (h : i < 16) : jcell c (i + (if d then 32 else 0)) = sCell d i c := by
  rw [sCell_eq]; unfold jcell
  refine congrArg (fun k => kcell (c, k)) (Fin.ext ?_)
  show (i + (if d then 32 else 0)) % 67 = (if d then 32 else 0) + i % 16
  split <;> omega
theorem jcell_r (d : Bool) (i : ℕ) (h : i < 16) : jcell c (i + (if d then 48 else 16)) = rCell d i c := by
  rw [rCell_eq]; unfold jcell
  refine congrArg (fun k => kcell (c, k)) (Fin.ext ?_)
  show (i + (if d then 48 else 16)) % 67 = 16 + (if d then 32 else 0) + i % 16
  split <;> omega

/-- A family over the cells of one device, kind by kind. -/
def Kinds (A : GSem nD τ sig → sProp 𝕄) : sProp 𝕄 :=
  iprop((bigSep (Finset.Ico 0 16) (fun i => A (sCell false i c)) ∗ bigSep (Finset.Ico 0 16) (fun i => A (rCell false i c)) ∗ A (cCell false c))
    ∗ (bigSep (Finset.Ico 0 16) (fun i => A (sCell true i c)) ∗ bigSep (Finset.Ico 0 16) (fun i => A (rCell true i c)) ∗ A (cCell true c)))

theorem cells66 (A : GSem nD τ sig → sProp 𝕄) : Kinds c A = bigSep (Finset.Ico 0 66) fun j => A (jcell c j) := by
  unfold Kinds
  have es (d : Bool) : bigSep (Finset.Ico 0 16) (fun i => A (sCell d i c)) = bigSep (Finset.Ico 0 16) fun i => A (jcell c (i + (if d then 32 else 0))) :=
    bigSep_congr fun i hi => by rw [jcell_s c d i (Finset.mem_Ico.mp hi).2]
  have er (d : Bool) : bigSep (Finset.Ico 0 16) (fun i => A (rCell d i c)) = bigSep (Finset.Ico 0 16) fun i => A (jcell c (i + (if d then 48 else 16))) :=
    bigSep_congr fun i hi => by rw [jcell_r c d i (Finset.mem_Ico.mp hi).2]
  have sh (m : ℕ) := bs_shift 0 16 m fun j => A (jcell c j)
  rw [es, es, er, er]
  simp only [if_true, Bool.false_eq_true, if_false]
  rw [← sh 0, ← sh 16, ← sh 32, ← sh 48]
  have e1 : (bigSep (Finset.Ico 64 65) fun j => A (jcell c j)) = A (cCell false c) := by
    rw [bigSep_Ico_one, cCell_eq]; rfl
  have e2 : (bigSep (Finset.Ico 65 66) fun j => A (jcell c j)) = A (cCell true c) := by
    rw [bigSep_Ico_one, cCell_eq]; rfl
  rw [bs_split (x := 0) (y := 16) (z := 66) (by omega) (by omega), bs_split (x := 16) (y := 32) (z := 66) (by omega) (by omega),
    bs_split (x := 32) (y := 48) (z := 66) (by omega) (by omega), bs_split (x := 48) (y := 64) (z := 66) (by omega) (by omega),
    bs_split (x := 64) (y := 65) (z := 66) (by omega) (by omega), e1, e2]
  refine BI.Entails.antisymm (show _ ⊢ (_ : sProp 𝕄) from ?_) (show _ ⊢ (_ : sProp 𝕄) from ?_)
  · iintro ⟨⟨H1, H2, H3⟩, H4, H5, H6⟩
    iframe H1 H2 H3 H4 H5 H6
  · iintro ⟨H1, H2, H4, H5, H3, H6⟩
    iframe H1 H2 H3 H4 H5 H6

/-! ## Closing the cells -/

theorem close_cell (g : GSem nD τ sig) (x : Dev nD × Fin 67) (h : g = kcell x) (r : ℕ) (hr : ∀ r', r ≤ r' → (Rd V).duties g r' = ∅) :
    iprop(Ctx V ∗ atPos ER g r ∅ 0) ⊢ |={Set.univ}=> semVal g 0 := by
  iintro ⟨#Hctx, Hat⟩
  ihave #HI := (ctx_cell V x g h) $$ Hctx
  unfold CInv
  icases HI with ⟨%κ, #HI⟩
  iapply (Rounds.cell_close ER (Rd V) (Set.mem_univ κ) (fun h => h) (R := r) hr)
  iframe HI Hat

theorem close_family (n : ℕ) (f : ℕ → GSem nD τ sig) (x : ℕ → Dev nD × Fin 67) (hx : ∀ i, f i = kcell (x i)) (hf : ∀ i, f (i % 16) = f i)
    (hr : ∀ i, n ≤ i → ∀ r, i / 16 ≤ r → (Rd V).duties (f i) r = ∅) :
    iprop(Ctx V ∗ bigSep (Finset.Ico n (n + 16)) (fun i => atPos ER (f i) (i / 16) ∅ 0)) ⊢ |={Set.univ}=> bigSep (Finset.Ico 0 16) fun i => semVal (f i) 0 := by
  rw [← bs_mod n (fun i => semVal (f i) 0) (fun i => by simp only [hf])]
  refine BIBase.Entails.trans ?_ (bigSep_fupd _ _)
  refine BIBase.Entails.trans ?_ (bs_mono fun i hi => close_cell V (f i) (x i) (hx i) (i / 16) (hr i (Finset.mem_Ico.mp hi).1))
  have hp : Ctx V ⊢ bigSep (Finset.Ico n (n + 16)) fun _ => Ctx V := bigSep_intro_persistent fun _ _ => Entails.refl _
  iintro ⟨H, HB⟩
  ihave H := hp $$ H
  iapply (bs_sep (fun _ => Ctx V) _) $$ [H HB]
  iframe H HB

/-! ## The buffers whole again -/

theorem c_whole (d : Bool) (n : ℕ) : bigSep (Finset.Ico n (n + 16)) (fun i => cAny (F := F) d i c) ⊢ iprop(∃ f : cBuf F d c, cLoc d c ↦{fullShare} f) := by
  unfold cAny
  iintro H
  ihave H := (BI.bigSep_exists_pi (Finset.Ico n (n + 16)) fun (i : ℕ) (f : cBuf F d c) => (cLoc d c ↦[cSet d i c]{fullShare} f : sProp 𝕄)) $$ H
  icases H with ⟨%fs, H⟩
  ihave H := (pointsTo_biUnion_join (q := fullShare) (Finset.Ico n (n + 16)) (fun i => cSet d i c) fs (fs 0) (fun i hi j hj hij => cSet_disjoint d c (by
    rw [Finset.mem_Ico] at hi hj; omega))) $$ H
  icases H with ⟨%g, -, H⟩
  iexists g
  iapply (Entails.of_eq (congrArg (fun s => (cLoc d c ↦[s]{fullShare} g : sProp 𝕄)) (cSet_univ d c n))) $$ H

theorem c_back (d : Bool) (n : ℕ) :
    iprop(bigSep (Finset.Ico (n + 4) (n + 20)) (fun i => srcPay V d i c) ∗ bigSep (Finset.Ico n (n + 16)) (E5 V d c))
      ⊢ iprop(∃ f : cBuf F d c, cLoc d c ↦{fullShare} f) := by
  refine BIBase.Entails.trans ?_ (c_whole c d n)
  have e : bigSep (Finset.Ico (n + 4) (n + 20)) (fun i => srcPay V d i c) = bigSep (Finset.Ico n (n + 16)) fun i => srcPay V d (i + 4) c :=
    bs_shift n (n + 16) 4 fun i => srcPay V d i c
  rw [e]
  refine (bs_sep (fun i => srcPay V d (i + 4) c) (E5 V d c)).trans (bs_mono fun i _ => ?_)
  rw [srcPay_shift]
  iintro ⟨H1, H2, -⟩
  iapply (chunk_back c d i (V (origin d (i / 4) c)))
  iframe H1 H2

theorem filter_end (n : ℕ) (A : ℕ → sProp 𝕄) :
    bigSep ((Finset.range (n + 16)).filter fun i => i < 4 ∨ n + 4 ≤ i) A = iprop(bigSep (Finset.Ico 0 4) A ∗ bigSep (Finset.Ico (n + 4) (n + 16)) A) := by
  have e : (Finset.range (n + 16)).filter (fun i => i < 4 ∨ n + 4 ≤ i) = Finset.Ico 0 4 ∪ Finset.Ico (n + 4) (n + 16) := by
    ext z; simp only [Finset.mem_filter, Finset.mem_union, Finset.mem_Ico, Finset.mem_range]; omega
  rw [e]
  refine bigSep_union ?_
  rw [Finset.disjoint_left]; intro z h1 h2
  simp only [Finset.mem_Ico] at h1 h2; omega

theorem srcPay_w (d : Bool) : (bigSep (Finset.Ico 0 4) fun i => srcPay V d i c) ⊢ (wLoc c ↦{wq d} wF (V c) : sProp 𝕄) := by
  rw [w_split]
  refine bs_mono fun i hi => ?_
  unfold srcPay; rw [if_pos (Finset.mem_Ico.mp hi).2]
theorem w_join (f : Buf (Elt F) (wLoc c)) : iprop((wLoc c ↦{wq false} f) ∗ (wLoc c ↦{wq true} f) ∗ (wLoc c ↦{wk} f)) ⊢ (wLoc c ↦{fullShare} f : sProp 𝕄) := by
  iintro ⟨H1, H2, H3⟩
  iapply (pointsTo_share (PosShare.mem_left_op_right fullShare)).2
  isplitl [H1]; · iexact H1
  iapply (pointsTo_share (PosShare.mem_left_op_right fullShare.right)).2
  isplitl [H2]; · iexact H2
  iexact H3

/-- One direction at its end: its buffer, its share of the own weights, its closed cells. -/
theorem dir_end (d : Bool) (n : ℕ) (a : Cnt) (h1 : a = ⟨n + 16, n + 16, n + 16, 4 + C d, n / 4⟩) (h2 : T d = n + 16) (h3 : 4 * (n / 4) = n) :
    iprop(Ctx V ∗ Dir V c d a) ⊢ |={Set.univ}=> iprop((∃ f : cBuf F d c, cLoc d c ↦{fullShare} f) ∗ (wLoc c ↦{wq d} wF (V c))
      ∗ bigSep (Finset.Ico 0 16) (fun i => semVal (sCell d i c) 0) ∗ bigSep (Finset.Ico 0 16) (fun i => semVal (rCell d i c) 0) ∗ semVal (cCell d c) 0) := by
  subst h1
  unfold Dir
  dsimp only
  rw [h3, filter_end, CPos_end c d (by omega)]
  iintro ⟨#Hctx, -, -, A3, ⟨A4w, A4⟩, A5, -, A7, -, A9, A10, -⟩
  have hs := bs_unsep (s := Finset.Ico (n + 16) (n + 16 + 16)) (fun i => (atPos ER (sCell d i c) (i / 16) ∅ 0 : sProp 𝕄)) (fun i => reached ER (sCell d i c) (i / 16))
  ihave A9 := hs $$ A9
  icases A9 with ⟨A9, -⟩
  imod (close_family V (n + 16) (fun i => rCell d i c) _ (fun i => rCell_eq d i c) (fun i => by unfold rCell rSem; simp only [Nat.mod_mod]) (fun i hi r hr => duties_r_end V d i c (by omega) r hr)) $$ [A7] with S2
  · iframe Hctx A7
  imod (close_family V (n + 16) (fun i => sCell d i c) _ (fun i => sCell_eq d i c) (fun i => by unfold sCell sSem; simp only [Nat.mod_mod]) (fun i hi r hr => duties_s_end V d i c (by omega) r hr)) $$ [A9] with S1
  · iframe Hctx A9
  imod (close_cell V (cCell d c) _ (cCell_eq d c) 1 (fun r hr => duties_reg_end V _ _ r hr)) $$ [A10] with S3
  · iframe Hctx A10
  imodintro
  ihave A4w := (srcPay_w V c d) $$ A4w
  iframe A4w S1 S2 S3
  iapply (c_back V c d n)
  isplitl [A3 A4]
  · iapply (Entails.of_eq (bs_split (x := n + 4) (y := n + 16) (z := n + 20) (by omega) (by omega) fun i => srcPay V d i c).symm)
    iframe A3 A4
  · iexact A5

/-- What the kernel leaves behind. -/
def EndP : sProp 𝕄 :=
  iprop(((∃ f : Buf (Elt F) (wLoc c), wLoc c ↦{fullShare} f) ∗ (∃ f : cBuf F false c, cLoc false c ↦{fullShare} f) ∗ (∃ f : cBuf F true c, cLoc true c ↦{fullShare} f))
    ∗ Kinds c (fun g => semVal g 0) ∗ semVal (bCell c) 0 ∗ (∃ W : Waits sig ℕ, owes (c : Thread nD τ) 0 W)
    ∗ (xM.view.loc (c : Thread nD τ) ↦{fullShare} (V c).x) ∗ (gM.view.loc (c : Thread nD τ) ↦{fullShare} (V c).g)
    ∗ (iM.view.loc (c : Thread nD τ) ↦{fullShare} (V c).i) ∗ (eM.view.loc (c : Thread nD τ) ↦{fullShare} (V c).e)
    ∗ (oM.view.loc (c : Thread nD τ) ↦{fullShare} accum V c 32))

theorem owed_end : OD c false ⟨32, 32, 32, 8, 4⟩ + OD c true ⟨28, 28, 28, 7, 3⟩ = 0 := by
  unfold OD
  have e1 : Finset.Ico 32 (T false) = ∅ := Finset.Ico_self _
  have e2 : Finset.Ico (4 + 1) (C false + 1) = ∅ := Finset.Ico_self _
  have e3 : Finset.Ico 28 (T true) = ∅ := Finset.Ico_self _
  have e4 : Finset.Ico (3 + 1) (C true + 1) = ∅ := Finset.Ico_self _
  dsimp only
  rw [e1, e2, e3, e4]
  simp only [Finset.sum_empty, add_zero]

theorem st_end : St V c (Keep V c) ⟨⟨32, 32, 32, 8, 4⟩, ⟨28, 28, 28, 7, 3⟩, 32⟩ ⊢ |={Set.univ}=> EndP V c := by
  unfold St Keep EndP Kinds
  iintro ⟨#Hctx, D0, D1, HO, Ho, Hk, He, Hx, Hg, Hi, Hb⟩
  imod (dir_end V c false 16 _ rfl rfl rfl) $$ [D0] with ⟨B0, W0, S0, R0, C0⟩
  · iframe Hctx D0
  imod (dir_end V c true 12 _ rfl rfl rfl) $$ [D1] with ⟨B1, W1, S1, R1, C1⟩
  · iframe Hctx D1
  imod (close_cell V (bCell c) _ (bCell_eq c) 1 (fun r hr => duties_reg_end V _ _ r hr)) $$ [Hb] with Hb
  · iframe Hctx Hb
  imodintro
  iframe B0 B1 S0 R0 C0 S1 R1 C1 Hb Hx Hg Hi He Ho
  isplitl [W0 W1 Hk]
  · iexists (wF (V c))
    iapply (w_join c (wF (V c)))
    iframe W0 W1 Hk
  · icases HO with ⟨%W, HO⟩
    iexists W
    iapply (Entails.of_eq (congrArg (fun O => (owes (c : Thread nD τ) O W : sProp 𝕄)) (owed_end c))) $$ HO

end Cert.RingProof

end
-- ==== Proof.Deal.lean ====
/-
# What the launch deals

The cells' tokens minted once for the machine, dealt around the ring; the cells and the slots opened; the launch credit
cut to the units each wait consumes.
-/
module

public import proofs.«01_k».proof.Proof.End

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (V : Dev nD → Inp F) (c : Dev nD)

/-! ## The cells and their tokens -/

/-- The number of a semaphore among a device's own. -/
def semNum (sm : SemLoc sig) : ℕ :=
  match sm with
  | .dma q => q.val - 5
  | .reg q => if q = cSem false then 64 else if q = cSem true then 65 else 66
theorem cellSem_injective : Function.Injective cellSem := by
  intro a b h
  have e (j : Fin 67) : semNum (cellSem j) = j.val := by
    revert j; decide
  exact Fin.ext ((e a).symm.trans ((congrArg semNum h).trans (e b)))
theorem kcell_injective : Function.Injective kcell := by
  rintro ⟨a, j⟩ ⟨b, k⟩ h
  have h1 : a = b := congrArg (fun g : GSem nD τ sig => g.1.1) h
  have h2 : j = k := cellSem_injective (congrArg Prod.snd h)
  rw [h1, h2]
theorem jcell_of (j : ℕ) (h : j < 67) : jcell c j = kcell (c, ⟨j, h⟩) := by
  unfold jcell; exact congrArg (fun k => kcell (c, k)) (Fin.ext (Nat.mod_eq_of_lt h))

def ringCells : Finset (GSem nD τ sig) := Finset.univ.map ⟨kcell, kcell_injective⟩

/-- The tokens of one device, numbered: cell, round, duty. -/
def tk (p : ℕ) : ℕ × ℕ × ℕ :=
  if p < 32 then (p % 16, p / 16, 0) else if p < 64 then (16 + (p - 32) % 16, (p - 32) / 16, 0)
  else if p < 65 then (66, 0, 0) else if p < 70 then (64, 0, p - 65)
  else if p < 98 then (32 + (p - 70) % 16, (p - 70) / 16, 0) else if p < 126 then (48 + (p - 98) % 16, (p - 98) / 16, 0)
  else if p < 127 then (66, 0, 1) else (65, 0, p - 127)
/-- The number of a token. -/
def tkNum (x : ℕ × ℕ × ℕ) : ℕ :=
  if x.1 < 16 then 16 * x.2.1 + x.1 else if x.1 < 32 then 16 + 16 * x.2.1 + x.1
  else if x.1 < 48 then 38 + 16 * x.2.1 + x.1 else if x.1 < 64 then 50 + 16 * x.2.1 + x.1
  else if x.1 < 65 then 65 + x.2.2 else if x.1 < 66 then 127 + x.2.2 else if x.2.2 = 0 then 64 else 126
theorem tkNum_tk (p : ℕ) (h : p < 131) : tkNum (tk p) = p ∧ (tk p).1 < 67 := by
  unfold tk
  split_ifs <;> unfold tkNum <;> dsimp only <;> refine ⟨?_, by omega⟩ <;> split_ifs <;> first | omega | contradiction

def tok (x : Dev nD × ℕ) : GSem nD τ sig × ℕ × ℕ := (jcell x.1 (tk x.2).1, (tk x.2).2)
theorem tok_inj : Set.InjOn tok (Finset.univ ×ˢ Finset.range 131 : Finset (Dev nD × ℕ)) := by
  rintro ⟨a, p⟩ hp ⟨b, q⟩ hq h
  have hp' := Finset.mem_range.mp (Finset.mem_product.mp (Finset.mem_coe.mp hp)).2
  have hq' := Finset.mem_range.mp (Finset.mem_product.mp (Finset.mem_coe.mp hq)).2
  obtain ⟨ep, lp⟩ := tkNum_tk p hp'
  obtain ⟨eq, lq⟩ := tkNum_tk q hq'
  have h1 : jcell a (tk p).1 = jcell b (tk q).1 := congrArg Prod.fst h
  rw [jcell_of a _ lp, jcell_of b _ lq] at h1
  have h2 := kcell_injective h1
  have h3 : a = b := congrArg Prod.fst h2
  have h4 : (tk p).1 = (tk q).1 := congrArg (fun x : Dev nD × Fin 67 => x.2.val) h2
  have h5 : (tk p).2 = (tk q).2 := congrArg (fun x : GSem nD τ sig × ℕ × ℕ => x.2) h
  have h6 : tk p = tk q := Prod.ext h4 h5
  have h7 : p = q := by rw [← ep, ← eq, h6]
  rw [h3, h7]
def ringToks : Finset (GSem nD τ sig × ℕ × ℕ) := (Finset.univ ×ˢ Finset.range 131).image tok

theorem bs_imageG {α β : Type} [DecidableEq α] [DecidableEq β] {s : Finset α} {f : α → β} (hf : Set.InjOn f s) (A : β → sProp 𝕄) :
    bigSep (s.image f) A = bigSep s fun i => A (f i) := by
  induction s using Finset.induction_on with
  | empty => rw [Finset.image_empty, bigSep_empty, bigSep_empty]
  | insert a s ha ih =>
    rw [Finset.image_insert, bigSep_insert ha, ← ih (hf.mono (Finset.coe_subset.mpr (Finset.subset_insert _ _)))]
    refine bigSep_insert fun h => ha ?_
    obtain ⟨b, hb, e⟩ := Finset.mem_image.mp h
    have e' : b = a := hf (Finset.mem_coe.mpr (Finset.mem_insert_of_mem hb)) (Finset.mem_coe.mpr (Finset.mem_insert_self a s)) e
    subst e'; exact hb

theorem bs_product {α β : Type} [DecidableEq α] [DecidableEq β] (s : Finset α) (t : Finset β) (A : α × β → sProp 𝕄) :
    bigSep (s ×ˢ t) A = bigSep s fun a => bigSep t fun b => A (a, b) := by
  induction s using Finset.induction_on with
  | empty => rw [Finset.empty_product, bigSep_empty, bigSep_empty]
  | insert a s ha ih =>
    have e : (bigSep t fun b => A (a, b)) = bigSep (t.image fun b => (a, b)) A := (bs_imageG (fun x _ y _ h => congrArg Prod.snd h) A).symm
    rw [bigSep_insert ha, ← ih, e, ← bigSep_union]
    · refine congrArg (fun u => bigSep u A) (Finset.ext fun x => ?_)
      simp only [Finset.mem_product, Finset.mem_insert, Finset.mem_union, Finset.mem_image]
      constructor
      · rintro ⟨h1 | h1, h2⟩
        · exact Or.inl ⟨x.2, h2, Prod.ext h1.symm rfl⟩
        · exact Or.inr ⟨h1, h2⟩
      · rintro (⟨b, h1, rfl⟩ | ⟨h1, h2⟩)
        · exact ⟨Or.inl rfl, h1⟩
        · exact ⟨Or.inr h1, h2⟩
    · rw [Finset.disjoint_left]
      intro x h1 h2
      obtain ⟨b, -, rfl⟩ := Finset.mem_image.mp h1
      exact ha (Finset.mem_product.mp h2).1

/-- The duty tokens of one direction's cells on a device. -/
def Tk (d : Bool) (c : Dev nD) : sProp 𝕄 :=
  iprop(bigSep (Finset.Ico 0 (T d)) (fun i => dutyTok ER (sCell d i c) (i / 16) 0) ∗ bigSep (Finset.Ico 0 (T d)) (fun i => dutyTok ER (rCell d i c) (i / 16) 0)
    ∗ dutyTok ER (bCell c) 0 d.toNat ∗ dutyTok ER (cCell d c) 0 0 ∗ bigSep (Finset.Ico 1 (C d + 1)) (fun k => dutyTok ER (cCell d c) 0 k))

theorem tok_family {x y n m : ℕ} {B : ℕ → GSem nD τ sig × ℕ × ℕ} (hx : n + m = x) (l : ℕ) (hy : l + m = y) (h : ∀ i, n ≤ i → i < l → tok (c, i + m) = B i) :
    (bigSep (Finset.Ico x y) fun p => (dutyTok ER (tok (c, p)).1 (tok (c, p)).2.1 (tok (c, p)).2.2 : sProp 𝕄))
      = bigSep (Finset.Ico n l) fun i => dutyTok ER (B i).1 (B i).2.1 (B i).2.2 := by
  subst hx hy
  rw [bs_shift]
  exact bigSep_congr fun i hi => by rw [h i (Finset.mem_Ico.mp hi).1 (Finset.mem_Ico.mp hi).2]

theorem tok_at (p j r k : ℕ) (h : tk p = (j, r, k)) (hj : j < 67) : tok (c, p) = (kcell (c, ⟨j, hj⟩), r, k) := by
  unfold tok; rw [h]; exact Prod.ext (jcell_of c j hj) rfl

theorem toks_split : (bigSep (Finset.Ico 0 131) fun p => (dutyTok ER (tok (c, p)).1 (tok (c, p)).2.1 (tok (c, p)).2.2 : sProp 𝕄))
    ⊢ iprop(Tk (F := F) false c ∗ Tk (F := F) true c) := by
  rw [bs_split (x := 0) (y := 32) (z := 131) (by omega) (by omega), bs_split (x := 32) (y := 64) (z := 131) (by omega) (by omega),
    bs_split (x := 64) (y := 65) (z := 131) (by omega) (by omega), bs_split (x := 65) (y := 66) (z := 131) (by omega) (by omega),
    bs_split (x := 66) (y := 70) (z := 131) (by omega) (by omega), bs_split (x := 70) (y := 98) (z := 131) (by omega) (by omega),
    bs_split (x := 98) (y := 126) (z := 131) (by omega) (by omega), bs_split (x := 126) (y := 127) (z := 131) (by omega) (by omega),
    bs_split (x := 127) (y := 128) (z := 131) (by omega) (by omega), bigSep_Ico_one, bigSep_Ico_one, bigSep_Ico_one, bigSep_Ico_one,
    tok_at c 64 66 0 0 rfl (by omega), tok_at c 65 64 0 0 rfl (by omega), tok_at c 126 66 0 1 rfl (by omega), tok_at c 127 65 0 0 rfl (by omega),
    tok_family c (n := 0) (m := 0) (B := fun i => (sCell false i c, i / 16, 0)) rfl 32 rfl (fun i _ hi => by
      rw [sCell_eq]; exact tok_at c _ _ _ _ (by unfold tk; simp only [Bool.false_eq_true, if_false, if_true]; split_ifs <;> first | omega | simp) _),
    tok_family c (n := 0) (m := 32) (B := fun i => (rCell false i c, i / 16, 0)) rfl 32 rfl (fun i _ hi => by
      rw [rCell_eq]; exact tok_at c _ _ _ _ (by unfold tk; simp only [Bool.false_eq_true, if_false, if_true]; split_ifs <;> first | omega | simp) _),
    tok_family c (n := 1) (m := 65) (B := fun i => (cCell false c, 0, i)) rfl 5 rfl (fun i _ hi => by
      rw [cCell_eq]; exact tok_at c _ _ _ _ (by unfold tk; simp only [Bool.false_eq_true, if_false, if_true]; split_ifs <;> first | omega | simp) _),
    tok_family c (n := 0) (m := 70) (B := fun i => (sCell true i c, i / 16, 0)) rfl 28 rfl (fun i _ hi => by
      rw [sCell_eq]; exact tok_at c _ _ _ _ (by unfold tk; simp only [Bool.false_eq_true, if_false, if_true]; split_ifs <;> first | omega | simp) _),
    tok_family c (n := 0) (m := 98) (B := fun i => (rCell true i c, i / 16, 0)) rfl 28 rfl (fun i _ hi => by
      rw [rCell_eq]; exact tok_at c _ _ _ _ (by unfold tk; simp only [Bool.false_eq_true, if_false, if_true]; split_ifs <;> first | omega | simp) _),
    tok_family c (n := 1) (m := 127) (B := fun i => (cCell true c, 0, i)) rfl 4 rfl (fun i _ hi => by
      rw [cCell_eq]; exact tok_at c _ _ _ _ (by unfold tk; simp only [Bool.false_eq_true, if_false, if_true]; split_ifs <;> first | omega | simp) _)]
  unfold Tk
  rw [bCell_eq, cCell_eq false, cCell_eq true]
  iintro ⟨H1, H2, H3, H4, H5, H6, H7, H8, H9, H10⟩
  isplitl [H1 H2 H3 H4 H5]
  · isplitl [H1]; · iexact H1
    isplitl [H2]; · iexact H2
    isplitl [H3]; · iexact H3
    isplitl [H4]; · iexact H4
    iexact H5
  · isplitl [H6]; · iexact H6
    isplitl [H7]; · iexact H7
    isplitl [H8]; · iexact H8
    isplitl [H9]; · iexact H9
    iexact H10

/-! ## The slots -/

/-- A slot open, its reader's count and the token of its one write. -/
def SK (k : KK) : sProp 𝕄 := iprop(SInv (F := F) k ∗ readerAt ES k 0 ∗ writeTok ES k 1)

theorem fund_slots : BI.own (ES (initSlots keys 1)) ⊢ (|={Set.univ}=> bigSep Finset.univ fun c : Dev nD => bigSep (Finset.univ ×ˢ Finset.range 4) fun x => SK (F := F) (c, x) : sProp 𝕄) := by
  iintro H
  imod (slots_init ES keys 1 (fun k => slotBack (F := F) k)) $$ H with ⟨%ι, -, HI, HR, HW⟩
  imodintro
  have e : (bigSep keys fun k => SK (F := F) k) = bigSep Finset.univ fun c : Dev nD => bigSep (Finset.univ ×ˢ Finset.range 4) fun x => SK (F := F) (c, x) := by
    unfold keys; exact bs_product _ _ _
  have eW : (bigSep (keys ×ˢ Finset.range 1) fun x : KK × ℕ => (writeTok ES x.1 (x.2 + 1) : sProp 𝕄)) = bigSep keys fun k => writeTok ES k 1 := by
    rw [bs_product]
    exact bigSep_congr fun k _ => by rw [Finset.range_eq_Ico, bigSep_Ico_one]
  have hI : (bigSep keys fun k => (slotInv ES (ι k) k (slotBack (F := F) k) : sProp 𝕄)) ⊢ bigSep keys fun k => SInv (F := F) k :=
    bigSep_mono fun k _ => show (slotInv ES (ι k) k (slotBack (F := F) k) : sProp 𝕄) ⊢ SInv (F := F) k from by unfold SInv; iintro H; iexists (ι k); iexact H
  ihave HI := hI $$ HI
  ihave HW := (Entails.of_eq eW) $$ HW
  iapply (Entails.of_eq e)
  unfold SK
  rw [bigSep_sep', bigSep_sep']
  iframe HI HR HW

/-- Device `c`'s slots as their reader and their writer hold them. -/
def Sl (c : Dev nD) : sProp 𝕄 := bigSep (Finset.univ ×ˢ Finset.range 4) fun x => SK (F := F) (c, x)
def SlW (d : Bool) (c : Dev nD) : sProp 𝕄 := bigSep (Finset.Ico 0 (C d)) fun s => writeTok ES ((c, d, s) : KK) 1
def SlR (d : Bool) (c : Dev nD) : sProp 𝕄 := bigSep (Finset.Ico 0 (C d)) fun s => readerAt ES ((c, d, s) : KK) 0

theorem sl_one (d : Bool) : (bigSep (Finset.range 4) fun s => SK (F := F) (c, d, s)) ⊢ iprop((bigSep (Finset.range 4) fun s => SInv (F := F) (c, d, s)) ∗ SlR d c ∗ SlW d c) := by
  unfold SK SlR SlW
  rw [bigSep_sep', bigSep_sep', Finset.range_eq_Ico]
  have hC : C d ≤ 4 := by cases d <;> decide
  rw [bs_split (x := 0) (y := C d) (z := 4) (by omega) hC fun s => (readerAt ES ((c, d, s) : KK) 0 : sProp 𝕄),
    bs_split (x := 0) (y := C d) (z := 4) (by omega) hC fun s => (writeTok ES ((c, d, s) : KK) 1 : sProp 𝕄)]
  iintro ⟨HI, ⟨HR, -⟩, HW, -⟩
  iframe HI HR HW

theorem sl_split : Sl (F := F) c ⊢ iprop((bigSep (Finset.univ ×ˢ Finset.range 4) fun x => SInv (F := F) (c, x)) ∗ (SlR false c ∗ SlW false c) ∗ SlR true c ∗ SlW true c) := by
  have e (A : Bool × ℕ → sProp 𝕄) : bigSep (Finset.univ ×ˢ Finset.range 4) A
      = iprop((bigSep (Finset.range 4) fun s => A (false, s)) ∗ (bigSep (Finset.range 4) fun s => A (true, s))) := by
    rw [bs_product]
    exact bigSep_univ_eq_bigSepL [false, true] (by decide) (by decide) _
  unfold Sl
  rw [e, e]
  iintro ⟨H0, H1⟩
  ihave H0 := (sl_one c false) $$ H0
  ihave H1 := (sl_one c true) $$ H1
  icases H0 with ⟨A0, B0, C0⟩
  icases H1 with ⟨A1, B1, C1⟩
  iframe A0 A1 B0 B1 C0 C1

/-! ## Every cell of a device -/

theorem cells67 (A : GSem nD τ sig → sProp 𝕄) : (bigSep Finset.univ fun k : Fin 67 => A (kcell (c, k))) = iprop(Kinds c A ∗ A (bCell c)) := by
  have e : (bigSep Finset.univ fun k : Fin 67 => A (kcell (c, k))) = bigSep Finset.univ fun k : Fin 67 => A (jcell c k.val) :=
    bigSep_congr fun k _ => by rw [jcell_of c k.val k.isLt]
  rw [e, bs_fin (fun j => A (jcell c j)), bs_split (x := 0) (y := 66) (z := 67) (by omega) (by omega), ← cells66, bigSep_Ico_one, jcell_of c 66 (by omega), bCell_eq]
  rfl

/-! ## What each device is dealt -/

/-- Device `c`'s part of what is minted. -/
def G (c : Dev nD) : sProp 𝕄 :=
  iprop((bigSep Finset.univ fun k : Fin 67 => roundState ER (Rd V) (kcell (c, k)) 0) ∗ (bigSep Finset.univ fun k : Fin 67 => atPos ER (kcell (c, k)) 0 ∅ 0)
    ∗ (bigSep Finset.univ fun k : Fin 67 => reached ER (kcell (c, k)) 0) ∗ (Tk (F := F) false c ∗ Tk (F := F) true c) ∗ Sl (F := F) c)

theorem fund_ring : iprop(BI.own (ER (initOf ringCells ringToks)) ∗ BI.own (ES (initSlots keys 1))) ⊢ (|={Set.univ}=> bigSep Finset.univ (G V) : sProp 𝕄) := by
  have hX (A : GSem nD τ sig → sProp 𝕄) : bigSep ringCells A = bigSep Finset.univ fun c : Dev nD => bigSep Finset.univ fun k : Fin 67 => A (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => iprop(Tk (F := F) false c ∗ Tk (F := F) true c) := by
    unfold ringToks
    rw [bs_imageG tok_inj, bs_product]
    exact bigSep_mono fun c _ => by rw [Finset.range_eq_Ico]; exact toks_split c
  have eG : bigSep Finset.univ (G V) = iprop((bigSep Finset.univ fun c : Dev nD => bigSep Finset.univ fun k : Fin 67 => roundState ER (Rd V) (kcell (c, k)) 0)
      ∗ (bigSep Finset.univ fun c : Dev nD => bigSep Finset.univ fun k : Fin 67 => atPos ER (kcell (c, k)) 0 ∅ 0)
      ∗ (bigSep Finset.univ fun c : Dev nD => bigSep Finset.univ fun k : Fin 67 => reached ER (kcell (c, k)) 0)
      ∗ (bigSep Finset.univ fun c : Dev nD => iprop(Tk (F := F) false c ∗ Tk (F := F) true c)) ∗ (bigSep Finset.univ fun c : Dev nD => Sl (F := F) c)) := by
    unfold G
    rw [bigSep_sep' Finset.univ, bigSep_sep' Finset.univ, bigSep_sep' Finset.univ, bigSep_sep' Finset.univ]
  iintro ⟨HX, HS⟩
  imod (Rounds.fund ER (Rd V) ringCells ringToks) $$ HX with ⟨Hst, Hr, Hat, Htok⟩
  imod (fund_slots (F := F)) $$ HS with HS
  imodintro
  ihave Hst := (Entails.of_eq (hX fun g => roundState ER (Rd V) g 0)) $$ Hst
  ihave Hat := (Entails.of_eq (hX fun g => atPos ER g 0 ∅ 0)) $$ Hat
  ihave Hr := (Entails.of_eq (hX fun g => reached ER g 0)) $$ Hr
  ihave Htok := hT $$ Htok
  iapply (Entails.of_eq eG.symm)
  unfold Sl
  iframe Hst Hat Hr Htok HS

/-- What is common to all devices, the levels apart. -/
def Ctx0 : sProp 𝕄 :=
  iprop(bigSep Finset.univ (fun x : Dev nD × Fin 67 => CInv V (kcell x)) ∗ bigSep Finset.univ (fun x : Dev nD × Fin 67 => reached ER (kcell x) 0)
    ∗ bigSep keys (fun k => SInv (F := F) k))
instance : BI.Persistent (Ctx0 V) := by unfold Ctx0; infer_instance

/-- What stays with a device, before and after the dealing. -/
def Own (c : Dev nD) : sProp 𝕄 := iprop(Kinds c (fun g => atPos ER g 0 ∅ 0) ∗ atPos ER (bCell c) 0 ∅ 0)
def Lin (d : Bool) (c : Dev nD) : sProp 𝕄 := iprop(Tk (F := F) d c ∗ SlR d c ∗ SlW d c)
def Lin' (d : Bool) (c : Dev nD) : sProp 𝕄 :=
  iprop((bigSep (Finset.Ico 0 (T d)) (fun i => dutyTok ER (sCell d i c) (i / 16) 0) ∗ bigSep (Finset.Ico 0 (T d)) (fun i => dutyTok ER (rCell d i (nb d c)) (i / 16) 0)
    ∗ dutyTok ER (bCell (nb (!d) c)) 0 d.toNat ∗ dutyTok ER (cCell d (nb (!d) c)) 0 0 ∗ bigSep (Finset.Ico 1 (C d + 1)) (E14 (F := F) d c))
    ∗ SlR d c ∗ bigSep (Finset.Ico 0 (C d)) (E12 (F := F) d c))

theorem deal (d : Bool) : (bigSep Finset.univ fun c : Dev nD => Lin (F := F) d c) ⊢ bigSep Finset.univ fun c : Dev nD => Lin' (F := F) d c := by
  unfold Lin Lin' Tk SlW
  simp only [bigSep_sep']
  rw [bigSep_univ_equiv (ring d) (fun c : Dev nD => bigSep (Finset.Ico 0 (T d)) fun i => (dutyTok ER (rCell d i c) (i / 16) 0 : sProp 𝕄)),
    bigSep_univ_equiv (ring (!d)) (fun c : Dev nD => (dutyTok ER (bCell c) 0 d.toNat : sProp 𝕄)),
    bigSep_univ_equiv (ring (!d)) (fun c : Dev nD => (dutyTok ER (cCell d c) 0 0 : sProp 𝕄)),
    bigSep_univ_equiv (ring (!d)) (fun c : Dev nD => bigSep (Finset.Ico 1 (C d + 1)) fun k => (dutyTok ER (cCell d c) 0 k : sProp 𝕄)),
    bigSep_univ_equiv (ring d) (fun c : Dev nD => bigSep (Finset.Ico 0 (C d)) fun s => (writeTok ES ((c, d, s) : KK) 1 : sProp 𝕄))]
  exact Entails.refl _

/-- What a device holds once every cell is open. -/
def G' (c : Dev nD) : sProp 𝕄 := iprop(Ctx0 V ∗ Own (F := F) c ∗ Lin' (F := F) false c ∗ Lin' (F := F) true c)

theorem core_alloc : iprop((bigSep Finset.univ fun k : Fin 67 => semVal (kcell (c, k)) 0) ∗ G V c)
    ⊢ |={Set.univ}=> iprop(((bigSep Finset.univ fun k : Fin 67 => CInv V (kcell (c, k))) ∗ (bigSep Finset.univ fun k : Fin 67 => reached ER (kcell (c, k)) 0)
      ∗ (bigSep (Finset.univ ×ˢ Finset.range 4) fun x => SInv (F := F) (c, x))) ∗ Own (F := F) c ∗ Lin (F := F) false c ∗ Lin (F := F) true c) := by
  unfold G
  iintro ⟨Hv, Hst, Hat, Hr, ⟨T0, T1⟩, Hs⟩
  imod (show iprop((bigSep Finset.univ fun k : Fin 67 => semVal (kcell (c, k)) 0) ∗ bigSep Finset.univ fun k : Fin 67 => roundState ER (Rd V) (kcell (c, k)) 0)
      ⊢ (|={Set.univ}=> bigSep Finset.univ fun k : Fin 67 => CInv V (kcell (c, k)) : sProp 𝕄) from by
        rw [← bigSep_sep']
        exact (bigSep_mono fun k _ => (Rounds.body_intro ER (Rd V) (kcell (c, k))).trans inv_alloc).trans (bigSep_fupd _ _)) $$ [Hv Hst] with HI
  · iframe Hv Hst
  imodintro
  ihave Hs := (sl_split c) $$ Hs
  icases Hs with ⟨Hs, ⟨R0, W0⟩, R1, W1⟩
  ihave Hat := (Entails.of_eq (cells67 c fun g => atPos ER g 0 ∅ 0)) $$ Hat
  unfold Own Lin
  iframe HI Hr Hs Hat T0 R0 W0 T1 R1 W1

theorem regroup : (bigSep Finset.univ fun c : Dev nD => iprop(((bigSep Finset.univ fun k : Fin 67 => CInv V (kcell (c, k))) ∗ (bigSep Finset.univ fun k : Fin 67 => reached ER (kcell (c, k)) 0)
      ∗ (bigSep (Finset.univ ×ˢ Finset.range 4) fun x => SInv (F := F) (c, x))) ∗ Own (F := F) c ∗ Lin (F := F) false c ∗ Lin (F := F) true c)) ⊢ bigSep Finset.univ (G' V) := by
  have eC : Ctx0 V = iprop((bigSep Finset.univ fun c : Dev nD => bigSep Finset.univ fun k : Fin 67 => CInv V (kcell (c, k)))
      ∗ (bigSep Finset.univ fun c : Dev nD => bigSep Finset.univ fun k : Fin 67 => reached ER (kcell (c, k)) 0)
      ∗ (bigSep Finset.univ fun c : Dev nD => bigSep (Finset.univ ×ˢ Finset.range 4) fun x => SInv (F := F) (c, x))) := by
    unfold Ctx0 keys
    rw [bigSep_univ_prod, bigSep_univ_prod, bs_product Finset.univ]
  have eG : bigSep Finset.univ (G' V) = iprop((bigSep Finset.univ fun _ : Dev nD => Ctx0 V) ∗ (bigSep Finset.univ fun c : Dev nD => Own (F := F) c)
      ∗ (bigSep Finset.univ fun c : Dev nD => Lin' (F := F) false c) ∗ (bigSep Finset.univ fun c : Dev nD => Lin' (F := F) true c)) := by
    unfold G'
    rw [bigSep_sep' Finset.univ, bigSep_sep' Finset.univ, bigSep_sep' Finset.univ]
  rw [eG, bigSep_sep' Finset.univ, bigSep_sep' Finset.univ, bigSep_sep' Finset.univ, bigSep_sep' Finset.univ, bigSep_sep' Finset.univ, ← eC]
  iintro ⟨HC, HO, H0, H1⟩
  ihave H0 := (deal (F := F) false) $$ H0
  ihave H1 := (deal (F := F) true) $$ H1
  iframe HO H0 H1
  iapply (BI.bigSep_of_persistent Finset.univ (Ctx0 V)) $$ HC

theorem glob : (bigSep Finset.univ fun c : Dev nD => iprop((bigSep Finset.univ fun k : Fin 67 => semVal (kcell (c, k)) 0) ∗ G V c)) ⊢ |={Set.univ}=> bigSep Finset.univ (G' V) :=
  ((bigSep_mono fun c _ => core_alloc V c).trans (bigSep_fupd _ _)).trans (BI.fupd_mono (regroup V))

/-! ## The launch credit -/

theorem cred_dir (d : Bool) : (Pipeline.launchCred (fun e => OD e d ⟨0, 0, 0, 0, 0⟩) c : sProp 𝕄)
    ⊢ iprop(bigSep (Finset.Ico 0 (T d)) (E6 (F := F) d c) ∗ bigSep (Finset.Ico 1 (C d + 1)) fun k => cred (tallyAt (cCell d c) (2 * k + 5) 1)) := by
  unfold OD
  rw [Pipeline.launchCred_add, Pipeline.launchCred_sum, Pipeline.launchCred_sum]
  have h1 : (bigSep (Finset.Ico 0 (T d)) fun i => (Pipeline.launchCred (fun e => tallyAt (rCell d i (nb d e)) (2 * (i / 4) + 4) N) c : sProp 𝕄)) ⊢ bigSep (Finset.Ico 0 (T d)) (E6 (F := F) d c) :=
    bigSep_mono fun i _ => Pipeline.launchCred_tallyAt _ (nb d) (nb (!d)) (nb_nb' d) (nb_nb d) _ _ c
  have h2 : (bigSep (Finset.Ico (0 + 1) (C d + 1)) fun k => (Pipeline.launchCred (fun e => tallyAt (cCell d (nb (!d) e)) (2 * k + 5) 1) c : sProp 𝕄))
      ⊢ bigSep (Finset.Ico 1 (C d + 1)) fun k => cred (tallyAt (cCell d c) (2 * k + 5) 1) :=
    bigSep_mono fun k _ => Pipeline.launchCred_tallyAt _ (nb (!d)) (nb d) (nb_nb d) (nb_nb' d) _ _ c
  iintro ⟨H1, H2⟩
  isplitl [H1]
  · iapply h1 $$ H1
  · iapply h2 $$ H2

theorem cred_units (d : Bool) : iprop(cred (tallyAt (cCell d c) 2 4) ∗ bigSep (Finset.Ico 1 (C d + 1)) fun k => cred (tallyAt (cCell d c) (2 * k + 5) 1))
    ⊢ bigSep (Finset.Ico 0 (4 + C d)) (E11 (F := F) d c) := by
  have e1 : (cred (tallyAt (cCell d c) 2 4) : sProp 𝕄) = bigSep (Finset.Ico 0 4) (E11 (F := F) d c) := by
    have e : (tallyAt (cCell d c) 2 4 : CellTallies nD τ sig ℕ) = ∑ k ∈ Finset.Ico 0 4, tallyAt (cCell d c) (ctag k) 1 := by
      rw [← Finset.range_eq_Ico, Finset.sum_range_succ, Finset.sum_range_succ, Finset.sum_range_succ, Finset.sum_range_succ, Finset.range_zero, Finset.sum_empty]
      show _ = 0 + tallyAt (cCell d c) 2 1 + tallyAt (cCell d c) 2 1 + tallyAt (cCell d c) 2 1 + tallyAt (cCell d c) 2 1
      rw [zero_add, tallyAt_add, tallyAt_add, tallyAt_add]
    rw [e, Pipeline.cred_finsetSum]
  have e2 : (bigSep (Finset.Ico 1 (C d + 1)) fun k => (cred (tallyAt (cCell d c) (2 * k + 5) 1) : sProp 𝕄)) = bigSep (Finset.Ico 4 (4 + C d)) (E11 (F := F) d c) := by
    have e := bs_shift 1 (C d + 1) 3 (E11 (F := F) d c)
    rw [show 4 + C d = C d + 1 + 3 by omega]
    refine Eq.trans (bigSep_congr fun k hk => ?_) e.symm
    have hk := (Finset.mem_Ico.mp hk).1
    show cred (tallyAt (cCell d c) (2 * k + 5) 1) = cred (tallyAt (cCell d c) (ctag (k + 3)) 1)
    unfold ctag
    rw [if_neg (by omega), show 2 * (k + 3) - 1 = 2 * k + 5 by omega]
  rw [e1, e2, bs_split (x := 0) (y := 4) (z := 4 + C d) (by omega) (by omega)]

/-- What device `c` owes when the kernel starts. -/
def O₀ (c : Dev nD) : CellTallies nD τ sig ℕ :=
  OD c false ⟨0, 0, 0, 0, 0⟩ + OD c true ⟨0, 0, 0, 0, 0⟩ + tallyAt (cCell true (nb (!true) c)) 2 4 + tallyAt (cCell false (nb (!false) c)) 2 4
    + tallyAt (bCell (nb (!true) c)) 1 1 + tallyAt (bCell (nb (!false) c)) 1 1

theorem creds : (Pipeline.launchCred O₀ c : sProp 𝕄)
    ⊢ iprop((bigSep (Finset.Ico 0 (T false)) (E6 (F := F) false c) ∗ bigSep (Finset.Ico 0 (4 + C false)) (E11 (F := F) false c))
      ∗ (bigSep (Finset.Ico 0 (T true)) (E6 (F := F) true c) ∗ bigSep (Finset.Ico 0 (4 + C true)) (E11 (F := F) true c)) ∗ cred (tallyAt (bCell c) 1 2)) := by
  unfold O₀
  rw [Pipeline.launchCred_add, Pipeline.launchCred_add, Pipeline.launchCred_add, Pipeline.launchCred_add, Pipeline.launchCred_add]
  have hc (d : Bool) (u n : ℕ) : (Pipeline.launchCred (fun e => tallyAt (cCell d (nb (!d) e)) u n) c : sProp 𝕄) ⊢ cred (tallyAt (cCell d c) u n) :=
    Pipeline.launchCred_tallyAt _ (nb (!d)) (nb d) (nb_nb d) (nb_nb' d) u n c
  have hb (d : Bool) (u n : ℕ) : (Pipeline.launchCred (fun e => tallyAt (bCell (nb (!d) e)) u n) c : sProp 𝕄) ⊢ cred (tallyAt (bCell c) u n) :=
    Pipeline.launchCred_tallyAt _ (nb (!d)) (nb d) (nb_nb d) (nb_nb' d) u n c
  iintro ⟨⟨⟨⟨⟨D0, D1⟩, C1⟩, C0⟩, B1⟩, B0⟩
  ihave D0 := (cred_dir c false) $$ D0
  ihave D1 := (cred_dir c true) $$ D1
  ihave C0 := (hc false 2 4) $$ C0
  ihave C1 := (hc true 2 4) $$ C1
  ihave B0 := (hb false 1 1) $$ B0
  ihave B1 := (hb true 1 1) $$ B1
  icases D0 with ⟨D0, K0⟩
  icases D1 with ⟨D1, K1⟩
  iframe D0 D1
  isplitl [C0 K0]
  · iapply (cred_units c false); iframe C0 K0
  isplitl [C1 K1]
  · iapply (cred_units c true); iframe C1 K1
  have e : (cred (tallyAt (bCell c) 1 2) : sProp 𝕄) = cred (tallyAt (bCell c) 1 1 + tallyAt (bCell c) 1 1) := by rw [tallyAt_add]
  rw [e]
  iapply (cred_add _ _).2
  iframe B0 B1

/-! ## The start -/

/-- One direction's part of the start, beside the buffers. -/
def DirG (d : Bool) : sProp 𝕄 :=
  iprop(DirRest (F := F) c d ∗ dutyTok ER (bCell (nb (!d) c)) 0 d.toNat ∗ dutyTok ER (cCell d (nb (!d) c)) 0 0)

theorem dir_ghost (d : Bool) : iprop(Ctx V ∗ Lin' (F := F) d c ∗ (bigSep (Finset.Ico 0 16) (fun i => (atPos ER (sCell d i c) 0 ∅ 0 : sProp 𝕄)) ∗ bigSep (Finset.Ico 0 16) (fun i => (atPos ER (rCell d i c) 0 ∅ 0 : sProp 𝕄)) ∗ atPos ER (cCell d c) 0 ∅ 0)
      ∗ bigSep (Finset.Ico 0 (T d)) (E6 (F := F) d c) ∗ bigSep (Finset.Ico 0 (4 + C d)) (E11 (F := F) d c)) ⊢ DirG (F := F) c d := by
  have hz (f : ℕ → GSem nD τ sig) : (bigSep (Finset.Ico 0 16) fun i => (atPos ER (f i) 0 ∅ 0 : sProp 𝕄)) = bigSep (Finset.Ico 0 16) fun i => atPos ER (f i) (i / 16) ∅ 0 :=
    bigSep_congr fun i hi => by rw [Nat.div_eq_of_lt (Finset.mem_Ico.mp hi).2]
  have hr : Ctx V ⊢ bigSep (Finset.Ico 0 16) fun i => (reached ER (sCell d i c) (i / 16) : sProp 𝕄) := by
    refine bigSep_intro_persistent fun i hi => ?_
    rw [Nat.div_eq_of_lt (Finset.mem_Ico.mp hi).2]
    exact ctx_reached V _ _ (sCell_eq d i c)
  unfold DirG DirRest Lin' SlR
  rw [hz, hz, bigSep_sep', bigSep_sep' (Finset.Ico 0 16)]
  iintro ⟨#Hctx, ⟨⟨S, R, B, K, L⟩, SR, SW⟩, ⟨A1, A2, A3⟩, H6, H11⟩
  ihave #Hr := hr $$ Hctx
  iframe S R B K L SR SW A1 A2 A3 H6 H11 Hr

def StartG : sProp 𝕄 := iprop(Ctx V ∗ DirG (F := F) c false ∗ DirG (F := F) c true ∗ cred (tallyAt (bCell c) 1 2) ∗ atPos ER (bCell c) 0 ∅ 0)

theorem start_ghost : iprop(levAts Lx lv ∗ Pipeline.launchCred O₀ c ∗ G' V c) ⊢ StartG V c := by
  unfold StartG G' Own Kinds Ctx0
  iintro ⟨Hlev, Hcr, ⟨C1, C2, C3⟩, ⟨⟨K0, K1⟩, Hb⟩, L0, L1⟩
  ihave Hcr := (creds c) $$ Hcr
  icases Hcr with ⟨E0, E1, EB⟩
  ihave #Hctx := (show iprop(levAts Lx lv ∗ (bigSep Finset.univ fun x : Dev nD × Fin 67 => CInv V (kcell x)) ∗ (bigSep Finset.univ fun x : Dev nD × Fin 67 => reached ER (kcell x) 0)
      ∗ bigSep keys fun k => SInv (F := F) k) ⊢ Ctx V from by unfold Ctx; iintro ⟨H1, H2, H3, H4⟩; iframe H1 H2 H3 H4) $$ [Hlev C1 C2 C3]
  · iframe Hlev C1 C2 C3
  iframe Hctx EB Hb
  isplitl [K0 L0 E0]
  · iapply (dir_ghost V c false)
    iframe Hctx L0 K0 E0
  · iapply (dir_ghost V c true)
    iframe Hctx L1 K1 E1

end Cert.RingProof

end
-- ==== Proof.Body.lean ====
module

public import proofs.«01_k».proof.Proof.Prelude

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (V : Dev nD → Inp F) (c : Dev nD)

theorem high_tally (d : Bool) : High 1 (tallyAt (cCell d (nb (!d) c)) 2 4 : CellTallies nD τ sig ℕ) := by
  intro g u h; obtain ⟨rfl, rfl⟩ := pos_tally h; exact ⟨rfl, by decide, by decide⟩

/-- What a device starts the kernel with. -/
def Start : sProp 𝕄 :=
  Sy V c (OD c false ⟨0, 0, 0, 0, 0⟩ + OD c true ⟨0, 0, 0, 0, 0⟩ + tallyAt (cCell true (nb (!true) c)) 2 4 + tallyAt (cCell false (nb (!false) c)) 2 4
      + tallyAt (bCell (nb (!true) c)) 1 1 + tallyAt (bCell (nb (!false) c)) 1 1)
    iprop((dutyTok ER (bCell (nb (!false) c)) 0 false.toNat ∗ bigSep (Finset.range 16) fun j => cAny (F := F) false j c)
      ∗ (dutyTok ER (bCell (nb (!true) c)) 0 true.toNat ∗ bigSep (Finset.range 16) fun j => cAny (F := F) true j c)
      ∗ (cred (tallyAt (bCell c) 1 2) ∗ atPos ER (bCell c) 0 ∅ 0)
      ∗ dutyTok ER (cCell false (nb (!false) c)) 0 0 ∗ dutyTok ER (cCell true (nb (!true) c)) 0 0 ∗ emp)
    (Z0 V c)

set_option maxRecDepth 20000
attribute [local irreducible] wp St Sy Wt Ot BIBase.Entails
set_option maxHeartbeats 4000000
/-- One device's run: every operation of the kernel in program order, each by the state's own rule. -/
theorem body_wp (Q : PUnit → sProp 𝕄) (h : St V c (Keep V c) ⟨⟨32, 32, 32, 8, 4⟩, ⟨28, 28, 28, 7, 3⟩, 32⟩ ⊢ |={Set.univ}[frame]=> Q ⟨⟩) :
    Start V c ⊢ WP c (cc0_body xM (Memref.isWhole_whole _) gM (Memref.isWhole_whole _) iM (Memref.isWhole_whole _) eM (Memref.isWhole_whole _) oM (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8) Q := by
  simp only [cc0_body_eq_skeleton]
  unfold cc0_body_skel Start
  simp only [k0_part97_eq_skeleton, k0_part98_eq_skeleton]
  unfold k0_part97_skel k0_part98_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
  refine p_dev c ?_
  refine sy_signal V c false _ _ _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl rfl ?_
  refine sy_signal V c true _ _ _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl rfl ?_
  refine sy_wait V c _ _ _ (high_add (high_add (high_add (high_OD (by decide)) (high_OD (by decide))) (high_tally c true)) (high_tally c false)) rfl rfl ?_
  refine sy_credit V c false _ _ _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl rfl ?_
  refine sy_credit V c true _ _ _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl rfl ?_
  refine (sy_wt V c _).trans ?_
  refine wt_e V c _ _ ?_
  refine wt_w V c _ _ fun _ => ?_
  refine wt_store V c 0 _ (by decide) rfl ?_
  refine wt_e V c _ _ ?_
  refine wt_w V c _ _ fun _ => ?_
  refine wt_store V c 1 _ (by decide) rfl ?_
  refine wt_e V c _ _ ?_
  refine wt_w V c _ _ fun _ => ?_
  refine wt_store V c 2 _ (by decide) rfl ?_
  refine wt_e V c _ _ ?_
  refine wt_w V c _ _ fun _ => ?_
  refine wt_store V c 3 _ (by decide) rfl ?_
  refine (wt_ot V c _).trans ?_
  refine ot_x V c _ _ (Memref.readAt_unit_zero (Elt F) cc0_stg0_0 (by funext a; fin_cases a <;> rfl) _ (V c).x) ?_
  refine ot_g V c _ _ (Memref.readAt_unit_zero (Elt F) cc0_stg1_0 (by funext a; fin_cases a <;> rfl) _ (V c).g) ?_
  refine ot_i V c _ _ (Memref.readAt_unit_zero (Elt F) cc0_stg2_0 (by funext a; fin_cases a <;> rfl) _ (V c).i) ?_
  refine ot_o V c _ fun _ => ?_
  refine ot_zero V c ?_
  repeat
    first
      | refine st_send V c false _ _ rfl rfl (by decide) (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl rfl ?_
      | refine st_send V c true _ _ rfl rfl (by decide) (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl rfl ?_
      | refine st_recv V c false _ _ rfl (by decide) (by decide) rfl ?_
      | refine st_recv V c true _ _ rfl (by decide) (by decide) rfl ?_
      | refine st_sent V c false _ _ rfl (by decide) (by decide) rfl ?_
      | refine st_sent V c true _ _ rfl (by decide) (by decide) rfl ?_
      | refine st_own V c _ _ ?_
      | refine st_out V c _ _ ?_
      | refine st_store V c _ _ rfl ?_
      | refine st_last V c false _ _ (by decide) (by decide) ?_
      | refine st_last V c true _ _ (by decide) (by decide) ?_
      | refine st_credit V c false _ _ rfl (by decide) (by decide) rfl ?_
      | refine st_credit V c true _ _ rfl (by decide) (by decide) rfl ?_
      | refine st_signal V c false _ _ rfl (by decide) (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl ?_
      | refine st_signal V c true _ _ rfl (by decide) (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq]; rfl)) rfl ?_
    conv => enter [1]; simp only [S.get, S.set, Nat.reduceAdd]
  exact p_ret c h
end Cert.RingProof
end
-- ==== Proof.Run.lean ====
/-
# The run

One run of the whole machine, at any floating-point values: every device's result array ends at the contents its
sixteen origins sum to, every argument array ends as it began, every semaphore counter reads zero.
-/
module

public import proofs.«01_k».proof.Proof.Deal
public import proofs.«01_k».proof.Proof.Body
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The inputs, staged -/

/-- Device `c`'s inputs. -/
def inp (c : Dev nD) : Inp F where
  x := (win0_0.blk t0_0).view.read (Elt F) (m ((c : Thread nD τ).loc main_arg0))
  g := (win0_1.blk t0_0).view.read (Elt F) (m ((c : Thread nD τ).loc main_arg1))
  i := (win0_2.blk t0_0).view.read (Elt F) (m ((c : Thread nD τ).loc main_arg2))
  e := (win0_3.blk t0_0).view.read (Elt F) (m ((c : Thread nD τ).loc main_arg3))

/-- Before the one point: the ghost state and the three scratch buffers. -/
def Φ₀ (c : Dev nD) : sProp 𝕄 :=
  iprop(StartG (inp m) c ∗ (∃ f : Buf (Elt F) (wLoc c), wLoc c ↦{fullShare} f) ∗ (∃ f : cBuf F false c, cLoc false c ↦{fullShare} f) ∗ (∃ f : cBuf F true c, cLoc true c ↦{fullShare} f))
/-- After it: the scratch buffers back, every cell closed. -/
def Φ₁ (c : Dev nD) : sProp 𝕄 :=
  iprop(((∃ f : Buf (Elt F) (wLoc c), wLoc c ↦{fullShare} f) ∗ (∃ f : cBuf F false c, cLoc false c ↦{fullShare} f) ∗ (∃ f : cBuf F true c, cLoc true c ↦{fullShare} f))
    ∗ Kinds c (fun g => semVal g 0) ∗ semVal (bCell c) 0)

def dats (_ : Fin 1) (c : Dev nD) : Dat τ (Elt F) ℕ ℕ UU ℕ cfg0 c where
  A w := m ((cfg0.win w).arr.view.loc (c : Thread nD τ))
  after w _ := match w with
    | ⟨0, _⟩ => (inp m c).x
    | ⟨1, _⟩ => (inp m c).g
    | ⟨2, _⟩ => (inp m c).i
    | ⟨3, _⟩ => (inp m c).e
    | ⟨4, _⟩ => accum (inp m) c 32
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

theorem c_open (d : Bool) : iprop(∃ f : cBuf F d c, cLoc d c ↦{fullShare} f) ⊢ bigSep (Finset.range 16) fun j => cAny (F := F) d j c := by
  iintro ⟨%f, H⟩
  have e : (cLoc d c ↦{fullShare} f : sProp 𝕄) = bigSep (Finset.range 16) fun j => cLoc d c ↦[cSet d j c]{fullShare} f := by
    have e1 := cSet_univ d c 0
    rw [Nat.zero_add, ← Finset.range_eq_Ico] at e1
    show (cLoc d c ↦[Finset.univ]{fullShare} f : sProp 𝕄) = _
    rw [← e1]
    exact pointsTo_biUnion (q := fullShare) (Finset.range 16) (fun j => cSet d j c) (fun i hi j hj hij => cSet_disjoint d c (by
      rw [Finset.mem_range] at hi hj; omega))
  have h : (bigSep (Finset.range 16) fun j => (cLoc d c ↦[cSet d j c]{fullShare} f : sProp 𝕄)) ⊢ bigSep (Finset.range 16) fun j => cAny (F := F) d j c :=
    bs_mono fun j _ => by unfold cAny; iintro H; iexists f; iexact H
  ihave H := (Entails.of_eq e) $$ H
  iapply h $$ H

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

set_option maxRecDepth 4000 in
def bodyPre (c : Dev nD) : sProp 𝕄 :=
  iprop(Φ₀ m c ∗ (dats m 0 c).owesAt 0 (t0_0 : Fin cfg0.N).castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))
set_option maxRecDepth 4000 in
def bodyPost (c : Dev nD) : sProp 𝕄 :=
  iprop(Φ₁ c ∗ (dats m 0 c).owesAt 0 (t0_0 : Fin cfg0.N).succ
    ∗ stg c cc0_stg0_0 (inp m c).x ∗ stg c cc0_stg1_0 (inp m c).g ∗ stg c cc0_stg2_0 (inp m c).i ∗ stg c cc0_stg3_0 (inp m c).e
    ∗ stg c cc0_stg4_0 (accum (inp m) c 32))

theorem body_end : St (inp m) c (Keep (inp m) c) ⟨⟨32, 32, 32, 8, 4⟩, ⟨28, 28, 28, 7, 3⟩, 32⟩ ⊢ |={Set.univ}[frame]=> bodyPost m c := by
  refine BIBase.Entails.trans (st_end (inp m) c) (fupd_mono ?_)
  unfold EndP bodyPost Φ₁ Dat.owesAt Pipeline.owesWithin
  iintro ⟨HB, HK, Hb, ⟨%W, HO⟩, Hx, Hg, Hi, He, Ho⟩
  iframe HB HK Hb
  isplitl [HO]
  · iexists W
    isplitr
    · ipureintro; exact fun _ _ => Or.inl trivial
    · iexact HO
  isplitl [Hx]
  · iexists (inp m c).x; isplitr; · (ipureintro; rfl)
    iexact Hx
  isplitl [Hg]
  · iexists (inp m c).g; isplitr; · (ipureintro; rfl)
    iexact Hg
  isplitl [Hi]
  · iexists (inp m c).i; isplitr; · (ipureintro; rfl)
    iexact Hi
  isplitl [He]
  · iexists (inp m c).e; isplitr; · (ipureintro; rfl)
    iexact He
  · iexists (accum (inp m) c 32); isplitr; · (ipureintro; rfl)
    iexact Ho

theorem before_x (d) : (dats m 0 c).before (0 : Fin 5) t0_0 d = (inp m c).x := by unfold Dat.before; rw [if_pos (fetch0_0 t0_0)]; rfl
theorem before_g (d) : (dats m 0 c).before (1 : Fin 5) t0_0 d = (inp m c).g := by unfold Dat.before; rw [if_pos (fetch0_1 t0_0)]; rfl
theorem before_i (d) : (dats m 0 c).before (2 : Fin 5) t0_0 d = (inp m c).i := by unfold Dat.before; rw [if_pos (fetch0_2 t0_0)]; rfl
theorem before_e (d) : (dats m 0 c).before (3 : Fin 5) t0_0 d = (inp m c).e := by unfold Dat.before; rw [if_pos (fetch0_3 t0_0)]; rfl

theorem body_start : bodyPre m c ⊢ Start (inp m) c := by
  unfold bodyPre Φ₀ StartG DirG Start Sy Z0 Ot Dat.owesAt Pipeline.owesWithin
  simp only [before_x, before_g, before_i, before_e]
  iintro ⟨⟨⟨Hctx, ⟨R0, b0, k0⟩, ⟨R1, b1, k1⟩, Hc, Hat⟩, Hw, B0, B1⟩, ⟨%W, -, HO⟩, ⟨%_, %fx, %hx, Hx⟩, ⟨%_, %fg, %hg, Hg⟩, ⟨%_, %fi, %hi, Hi⟩, ⟨%_, %fe, %he, He⟩, ⟨%_, %fo, -, Ho⟩⟩
  subst hx hg hi he
  ihave B0 := (c_open c false) $$ B0
  ihave B1 := (c_open c true) $$ B1
  iframe Hctx R0 b0 k0 R1 b1 k1 Hc Hat Hw B0 B1 Hx Hg Hi He
  isplitl [HO]
  · iexists W; iexact HO
  · isplitl
    · iexists fo; iexact Ho
    · iempintro

set_option maxRecDepth 20000 in
theorem body_obligation : BodyObligation (dats (F := F) m 0 c) (defs₀ (F := F)) 𝒱₀ 0 Set.univ := fun t => by
  rw [fin_N0 t]
  rw [bigSep_W0, bigSep_W0]
  simp only [owns_whole_eq]
  show bodyPre m c ⊢ WP c (cc0_body xM (Memref.isWhole_whole _) gM (Memref.isWhole_whole _) iM (Memref.isWhole_whole _) eM (Memref.isWhole_whole _) oM (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8) (fun _ => bodyPost m c)
  exact (body_start m c).trans (body_wp (inp m) c _ (body_end m c))

/-! ## The launch -/

def osem (k : Fin 66) : SemLoc sig := cellSem k.castSucc

theorem ownSemFacts : Pipeline.OwnSemFacts cfg0.spec osem := by decide

theorem share_eq (w : Fin cfg0.W) : (dats m 0 c).share w = fullShare := by unfold Dat.share; split <;> rfl

theorem ownSems_eq : (Pipeline.ownSems0 (Ix := ℕ) (Name := ℕ) (U := UU) (Lvl := ℕ) (Val := Elt F) (τ := τ) osem c : sProp 𝕄) = Kinds c fun g => semVal g 0 := by
  rw [cells66, ← bs_fin fun j => (semVal (jcell c j) 0 : sProp 𝕄)]
  exact bigSep_congr fun k _ => by rw [jcell_of c k.val (by omega)]; rfl
theorem unscopedSems_eq : (unscopedSems0 c : sProp 𝕄) = semVal (bCell c) 0 := by
  unfold unscopedSems0; rw [bigSep_eq_bigSepL_of_eq [SemLoc.reg bSem] (by decide) (by decide)]; rfl

theorem glob_run : (bigSep Finset.univ fun c : Dev nD => iprop(Pipeline.ownSems0 (Ix := ℕ) (Name := ℕ) (U := UU) (Lvl := ℕ) (Val := Elt F) (τ := τ) osem c ∗ unscopedSems0 c ∗ G (inp m) c) : sProp 𝕄)
    ⊢ |={Set.univ}=> bigSep Finset.univ (G' (inp m)) := by
  refine BIBase.Entails.trans (bigSep_mono fun c _ => ?_) (glob (inp m))
  rw [ownSems_eq, unscopedSems_eq, cells67 c fun g => (semVal g 0 : sProp 𝕄)]
  refine (show iprop(Kinds c (fun g => semVal g 0) ∗ semVal (bCell c) 0 ∗ G (inp m) c) ⊢ iprop((Kinds c (fun g => semVal g 0) ∗ semVal (bCell c) 0) ∗ G (inp m) c) from ?_)
  iintro ⟨H1, H2, H3⟩
  iframe H1 H2 H3

theorem high_start : High 0 (O₀ c) := by
  have hc (d : Bool) : High 0 (tallyAt (cCell d (nb (!d) c)) 2 4 : CellTallies nD τ sig ℕ) := by
    intro g u h; obtain ⟨rfl, rfl⟩ := pos_tally h; exact ⟨rfl, by decide, by decide⟩
  have hb (d : Bool) : High 0 (tallyAt (bCell (nb (!d) c)) 1 1 : CellTallies nD τ sig ℕ) := by
    intro g u h; obtain ⟨rfl, rfl⟩ := pos_tally h; exact ⟨rfl, by decide, by decide⟩
  exact high_add (high_add (high_add (high_add (high_add (high_OD (by decide)) (high_OD (by decide))) (hc true)) (hc false)) (hb true)) (hb false)

theorem waits : (levAts Lx lv : sProp 𝕄) ⊢ Pipeline.cellsWaits cfgs (dats m) 0 0 c :=
  Pipeline.cellsWaits_intro cfgs (dats m) 0 0 c fun w s t =>
    mayWait_of c _ 0 (by decide) _ (by
      rcases t with ⟨_ | _, ht⟩
      · exact high_start c
      · exact fun g u h => absurd h (Nat.lt_irrefl 0))

def u₀ : UU := (initOf (Pipeline.cells cfgs cellOf_inj) (Pipeline.launchToks cfgs cellOf_inj), (initOf ringCells ringToks, initSlots keys 1))

theorem fund_all : (ownU u₀ : sProp 𝕄) ⊢ |={Set.univ}=> iprop(BI.own (EP (initOf (Pipeline.cells cfgs cellOf_inj) (Pipeline.launchToks cfgs cellOf_inj))) ∗ bigSep Finset.univ (G (inp m))) := by
  unfold u₀
  iintro Hu
  ihave H := (ownU_pair _ _) $$ Hu
  icases H with ⟨HP, HX⟩
  ihave HX := (show BI.own (embR (_, _)) ⊢ iprop(BI.own (ER (initOf ringCells ringToks)) ∗ BI.own (ES (initSlots keys 1))) from by unfold ER ES; exact own_pair_emb (A := UB) (B := USlots KK) (embR : Emb (UB × USlots KK) 𝕄) _ _) $$ HX
  imod (fund_ring (inp m)) $$ HX with HG
  imodintro
  isplitl [HP] <;> iassumption

theorem enter : iprop(Pipeline.unscopedRestP Pipeline.Prefetch.none cfg0.spec c (fun b => m ((c : Thread nD τ).loc b)) ∗ levAts Lx lv
        ∗ Pipeline.launchCred O₀ c ∗ prngReg c (ρ c) ∗ G' (inp m) c)
      ⊢ |={Set.univ}=> iprop(StartG (inp m) c ∗ emp) := by
  iintro ⟨-, Hlev, Hcr, -, HG⟩
  imodintro
  isplitl
  · iapply (start_ghost (inp m) c)
    iframe Hlev Hcr HG
  · iempintro

theorem phi_in : iprop(StartG (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest cfg0.spec c = _ from scopedRest0_eq c]
  unfold Φ₀
  iintro ⟨Hs, -, Hw, H1, H2⟩
  isplitl [Hs]; · iexact Hs
  isplitl [Hw]; · iexact Hw
  isplitl [H1]; · iexact H1
  iexact H2

theorem phi_out : (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show Pipeline.scopedRest cfg0.spec c = _ from scopedRest0_eq c, ownSems_eq, unscopedSems_eq]
  unfold Φ₁
  iintro ⟨⟨Hw, H1, H2⟩, HK, Hb⟩
  isplitl [Hb]; · iexact Hb
  isplitl [HK]; · iexact HK
  isplitl [Hw]; · iexact Hw
  isplitl [H1]; · iexact H1
  iexact H2

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 20000 in
/-- Every run ends, with every windowed array at its computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := Lx) (lv := lv) (hL := L_of_ne) (hwaits := waits m)
    (G := G (inp m)) (G' := G' (inp m)) (u₀ := u₀)
    (hu₀ := fund_all m)
    (hglob := glob_run m)
    (hA := fun _ _ => rfl) (hpf := fun _ k => k.elim0)
    (X := StartG (inp m)) (Y := fun c => unscopedSems0 c) (Z := fun _ => iprop(emp))
    (hX := enter m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The same, read at @main's own arrays: the arguments as they were, the result the accumulated sum. -/
theorem run_arrays : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v1) = finalA m c 4)
    ∧ r.2.sem = fun _ => 0) :=
  (θ_run defs _ _).mono (fun _ h => ⟨fun c => ⟨(h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _), h.1 c 4⟩, h.2⟩) (run_main m ρ)

end Cert.RingProof

end
-- ==== Proof.Mix.lean ====
/-
# Mixing two experts

The mathematics both programs share, on plain functions of plain numbers: a row of router scores is turned into
positive shares, and a token's thirty-two gates, of which two are open, sum to the two chosen products.
-/
module

public import Idealize.ShloMosaic.PureOps.Ideal.Laws
public import Idealize.ShloMosaic.Lib.ValueIdxCore

@[expose] public section

noncomputable section

namespace Cert.RingProof

open Idealize.ShloMosaic

/-- A number that is neither infinity. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by rw [← sum_real]; exact Finset.sum_congr rfl fun i _ => hg i⟩

theorem IsReal.of_abs {x : EReal} (h : max x (-x) < ⊤) : IsReal x := by
  induction x with
  | bot => simp at h
  | top => simp at h
  | coe r => exact ⟨r, rfl⟩

/-! ## The shares -/

variable (r : Fin 32 → EReal)

/-- The largest score, as a maximum folded from the least number. -/
def top : EReal := (Finset.univ : Finset (Fin 32)).fold max (Ideal.ofBits .f32 0xFF800000#32) r
/-- A score against the largest, exponentiated. -/
def rise (e : Fin 32) : EReal := Ideal.exp (r e - top r)
/-- The softmax of the scores. -/
def soft (e : Fin 32) : EReal := Ideal.div (rise r e) (∑ k, rise r k)
/-- The share of expert `k` between the two chosen. -/
def share (i j k : Fin 32) : EReal := Ideal.div (soft r k) (soft r i + soft r j)

theorem least : Ideal.ofBits .f32 0xFF800000#32 = ⊥ := by simp [Ideal.ofBits, Ideal.ieee]

theorem top_real (h : ∀ e, IsReal (r e)) : IsReal (top r) := by
  have key : ∀ s : Finset (Fin 32), s.Nonempty → IsReal (s.fold max ⊥ r) := by
    intro s hs
    induction hs using Finset.Nonempty.cons_induction with
    | singleton a => rw [Finset.fold_singleton, max_bot_right]; exact h a
    | cons a s ha hs ih =>
      rw [Finset.fold_cons]
      rcases max_choice (r a) (s.fold max ⊥ r) with e | e <;> rw [e]
      · exact h a
      · exact ih
  unfold top; rw [least]
  exact key _ ⟨0, Finset.mem_univ _⟩

theorem div_real (a : ℝ) {b : ℝ} (hb : 0 < b) : Ideal.div (a : EReal) (b : EReal) = ((a * b⁻¹ : ℝ) : EReal) := by
  unfold Ideal.div
  rw [if_neg (by exact_mod_cast hb.ne'), ← EReal.coe_inv, ← EReal.coe_mul]

theorem soft_real (h : ∀ e, IsReal (r e)) (e : Fin 32) : ∃ p : ℝ, 0 < p ∧ soft r e = p := by
  obtain ⟨m, hm⟩ := top_real r h
  choose s hs using h
  have hr : ∀ k, rise r k = (Real.exp (s k - m) : ℝ) := fun k => by
    unfold rise; rw [hm, hs k, ← EReal.coe_sub]; rfl
  have hpos : (0 : ℝ) < ∑ k : Fin 32, Real.exp (s k - m) := Finset.sum_pos (fun k _ => Real.exp_pos _) ⟨0, Finset.mem_univ _⟩
  refine ⟨Real.exp (s e - m) * (∑ k : Fin 32, Real.exp (s k - m))⁻¹, mul_pos (Real.exp_pos _) (inv_pos.2 hpos), ?_⟩
  unfold soft
  rw [hr e, Finset.sum_congr rfl fun k _ => hr k, sum_real, div_real _ hpos]

theorem share_good (h : ∀ e, IsReal (r e)) (i j k : Fin 32) : 0 ≤ share r i j k ∧ share r i j k ≠ ⊤ := by
  obtain ⟨a, ha, ea⟩ := soft_real r h i
  obtain ⟨b, hb, eb⟩ := soft_real r h j
  obtain ⟨p, hp, ep⟩ := soft_real r h k
  unfold share
  rw [ea, eb, ep, ← EReal.coe_add, div_real _ (add_pos ha hb)]
  exact ⟨by exact_mod_cast (mul_pos hp (inv_pos.2 (add_pos ha hb))).le, EReal.coe_ne_top _⟩

/-! ## The gates -/

/-- What expert `e` is given: the first share if it is the first choice, plus the second if it is the second. -/
def gate (i j : Fin 32) (a b : EReal) (e : Fin 32) : EReal := (if i = e then a else 0) + (if j = e then b else 0)

theorem mul_sum_good {ι : Type} (s : Finset ι) (f : ι → EReal) {a : EReal} (h0 : 0 ≤ a) (ht : a ≠ ⊤) :
    ∑ i ∈ s, a * f i = a * ∑ i ∈ s, f i := by
  classical
  induction s using Finset.induction_on with
  | empty => simp
  | insert i s hi ih => rw [Finset.sum_insert hi, Finset.sum_insert hi, ih, EReal.left_distrib_of_nonneg_of_ne_top h0 ht]

theorem one_gate (i : Fin 32) (a : EReal) (y : Fin 32 → EReal) : ∑ e, (if i = e then a else 0) * y e = a * y i := by
  rw [Finset.sum_eq_single i, if_pos rfl]
  · intro e _ he; rw [if_neg he.symm, zero_mul]
  · intro h; exact absurd (Finset.mem_univ _) h

/-- All thirty-two gated products sum to the two chosen ones. -/
theorem gates_sum (i j : Fin 32) {a b : EReal} (a0 : 0 ≤ a) (at' : a ≠ ⊤) (b0 : 0 ≤ b) (bt : b ≠ ⊤) (x : Fin 256 → EReal)
    (W : Fin 32 → Fin 256 → EReal) :
    ∑ e, ∑ d, (x d * gate i j a b e) * W e d = a * ∑ d, x d * W i d + b * ∑ d, x d * W j d := by
  have h0 : ∀ (k e : Fin 32) {c : EReal}, 0 ≤ c → (0 : EReal) ≤ if k = e then c else 0 := fun k e c hc => by split_ifs <;> simp [hc]
  have ht : ∀ (k e : Fin 32) {c : EReal}, c ≠ ⊤ → (if k = e then c else 0) ≠ ⊤ := fun k e c hc => by split_ifs <;> simp [hc]
  have step : ∀ e, ∑ d, (x d * gate i j a b e) * W e d
      = (if i = e then a else 0) * (∑ d, x d * W e d) + (if j = e then b else 0) * ∑ d, x d * W e d := by
    intro e
    rw [← mul_sum_good _ _ (h0 i e a0) (ht i e at'), ← mul_sum_good _ _ (h0 j e b0) (ht j e bt), ← Finset.sum_add_distrib]
    refine Finset.sum_congr rfl fun d _ => ?_
    rw [← EReal.right_distrib_of_nonneg (h0 i e a0) (h0 j e b0), mul_comm (x d), mul_assoc]
    rfl
  rw [Finset.sum_congr rfl fun e _ => step e, Finset.sum_add_distrib, one_gate, one_gate]

/-! ## Sums over a row of blocks -/

/-- A sum over `2 q` places is a sum over `q` pairs. -/
theorem sum_pairs (f : Fin 32 → EReal) : ∑ e, f e = ∑ q : Fin 16, ∑ u : Fin 2, f ⟨2 * q + u, by omega⟩ := by
  rw [← Fintype.sum_prod_type' (f := fun (q : Fin 16) (u : Fin 2) => f ⟨2 * q + u, by omega⟩)]
  refine (Fintype.sum_equiv (finProdFinEquiv (m := 16) (n := 2)) _ _ fun p => congrArg f (Fin.ext ?_)).symm
  show 2 * (p.1 : ℕ) + p.2 = p.2 + 2 * p.1
  omega

/-- A sum over two blocks of `256` places, block by block. -/
theorem sum_blocks (f : Fin 512 → EReal) : ∑ e, f e = ∑ u : Fin 2, ∑ d : Fin 256, f ⟨256 * u + d, by omega⟩ := by
  rw [← Fintype.sum_prod_type' (f := fun (u : Fin 2) (d : Fin 256) => f ⟨256 * u + d, by omega⟩)]
  refine (Fintype.sum_equiv (finProdFinEquiv (m := 2) (n := 256)) _ _ fun p => congrArg f (Fin.ext ?_)).symm
  show 256 * (p.1 : ℕ) + p.2 = p.2 + 256 * p.1
  omega

/-! ## A token's scores -/

open Idealize.ShloMosaic.ValueIdx in
/-- The router's scores of token `t`. -/
def score {n : ℕ} (x : (⟨2, ![n, 256]⟩ : Shape).Idx → EReal) (g : (⟨2, ![256, 32]⟩ : Shape).Idx → EReal) (t : Fin n) (e : Fin 32) : EReal :=
  ∑ d : Fin 256, x (ix2 t d) * g (ix2 d e)

theorem score_real {n : ℕ} {x : (⟨2, ![n, 256]⟩ : Shape).Idx → EReal} {g : (⟨2, ![256, 32]⟩ : Shape).Idx → EReal} (hx : ∀ i, IsReal (x i))
    (hg : ∀ i, IsReal (g i)) (t : Fin n) (e : Fin 32) : IsReal (score x g t e) := IsReal.sum _ fun d => (hx _).mul (hg _)

end Cert.RingProof
-- ==== Proof.Gate.lean ====
/-
# The weighted tokens

What the kernel multiplies a pair of experts' weights by, read at one token and one coordinate: the token's coordinate
times the gate of the expert.
-/
module

public import proofs.«01_k».proof.Proof.Track
public import proofs.«01_k».proof.Proof.Mix
public import Idealize.ShloMosaic.Lib.MatmulPlain
public import Idealize.ShloMosaic.Lib.ValueIdx
public import Idealize.ShloMosaic.Lib.Pipeline.Value
public import Idealize.ShloMosaic.Lib.StableHlo.Predicate

@[expose] public section

noncomputable section

namespace Cert.RingProof

open Cert.KernelIdeal Cert.KernelIdeal.Gen

open Idealize.ShloMosaic
open Idealize.ShloMosaic.ValueIdx

/-! ## Reading the shapes -/

theorem col_cast {α : Type} (v : S512.Idx → α) (h : S512.ShapeCasts S512x1) (t : Fin 512) (z : Fin 1) :
    shapeCast S512x1 v h (ix2 t z) = v (ix1 t) := by
  refine shapeCast_apply v h _ _ ?_
  rw [Shape.rowMajor_val_one, Shape.rowMajor_val_two]
  show (t : ℕ) = t * 1 + z
  omega

theorem col_wide {α : Type} {n : ℕ} (v : S512x1.Idx → α) (h : S512x1.Broadcasts ⟨2, ![512, n]⟩) (t : Fin 512) (e : Fin n) :
    broadcastTo ⟨2, ![512, n]⟩ v h (ix2 t e) = v (ix2 t 0) :=
  broadcastTo_apply v h _ _ (by intro a; match a with | ⟨0, _⟩ => rfl | ⟨1, _⟩ => rfl)

theorem row_lift (t : Fin 512) (k : Fin 32) (h : S512x32.Reduces [1] S512) : h.lift (ix1 t) k = ix2 t k := by
  funext a; match a with | ⟨0, _⟩ => rfl | ⟨1, _⟩ => rfl

theorem row_sum (v : FVec Ideal S512x32 .f32) (t : Fin 512) :
    multiReduction .add [1] S512 v 0x00000000#32 reduces_S512x32_S512 (.inl rfl) rfl (ix1 t) = ∑ k : Fin 32, v (ix2 t k) := by
  refine (Ideal.multiReduction_add_single v _ _ _ _ _).trans ?_
  exact Finset.sum_congr rfl fun k _ => congrArg v (row_lift t k _)

theorem row_max (v : FVec Ideal S512x32 .f32) (t : Fin 512) :
    multiReduction .maximumf [1] S512 v 0xFF800000#32 reduces_S512x32_S512 (.inl rfl) rfl (ix1 t) = top fun e => v (ix2 t e) := by
  refine (Ideal.multiReduction_maximumf_single v _ _ _ _ _).trans ?_
  unfold top
  congr 1
  funext k; exact congrArg v (row_lift t k _)

/-! ## The shares -/

variable (x : FVec Ideal S512x256 .f32) (g : FVec Ideal S256x32 .f32) (i : IVec S512x2 32) (t : Fin 512)

theorem pay8_at (e : Fin 32) : k0_pay8 (F := Ideal) x g (ix2 t e) = rise (score x g t) e := by
  have hs : ∀ e, matmul (F := Ideal) dot_S512x256_S256x32_S512x32_1_0_0_1_n_n none (k0_pay7 x) (shapeCast S256x32 g shapeCasts_S256x32_S256x32)
      (constant S512x32 .f32 0x00000000#32) (ix2 t e) = score x g t e := by
    intro e
    refine (Ideal.matmul_plain_apply none _ _ _ t e).trans ?_
    unfold score k0_pay7
    rw [constant_apply, Ideal.ofBits_zero_f32, zero_add]
    simp only [shapeCast_self]
  show Ideal.exp (_ - _) = Ideal.exp (_ - _)
  rw [hs e, col_wide, col_cast, row_max]
  simp only [hs]

theorem pay9_at (e : Fin 32) : k0_pay9 (F := Ideal) x g (ix2 t e) = ∑ k, rise (score x g t) k := by
  unfold k0_pay9
  dsimp only
  rw [col_wide, col_cast, row_sum]
  exact Finset.sum_congr rfl fun k _ => pay8_at x g t k

theorem pay12_at : k0_pay12 (F := Ideal) i (ix2 t 0) = i (ix2 t 0) :=
  (extractStridedSlice_apply (s := S512x2) (t := S512x1) ![0, 0] (k0_pay11 (F := Ideal) i) slices_S512x2_o0_0_S512x1 (ix2 t 0) (ix2 t 0) (by
    intro a; match a with | ⟨0, _⟩ => exact (Nat.zero_add _).symm | ⟨1, _⟩ => rfl)).trans (congrFun (shapeCast_self i _) _)
theorem pay13_at : k0_pay13 (F := Ideal) i (ix2 t 0) = i (ix2 t 1) :=
  (extractStridedSlice_apply (s := S512x2) (t := S512x1) ![0, 1] (k0_pay11 (F := Ideal) i) slices_S512x2_o0_1_S512x1 (ix2 t 0) (ix2 t 1) (by
    intro a; match a with | ⟨0, _⟩ => exact (Nat.zero_add _).symm | ⟨1, _⟩ => rfl)).trans (congrFun (shapeCast_self i _) _)

/-- Two small numbers are one word only if they are equal. -/
theorem word_eq (a b : ℕ) (ha : a < 2 ^ 32) (hb : b < 2 ^ 32) : BitVec.ofNat 32 a = BitVec.ofNat 32 b ↔ a = b := by
  refine ⟨fun h => ?_, fun h => congrArg _ h⟩
  have := congrArg BitVec.toNat h
  rwa [BitVec.toNat_ofNat, BitVec.toNat_ofNat, Nat.mod_eq_of_lt ha, Nat.mod_eq_of_lt hb] at this

theorem pick {a b : ℕ} (ha : a < 2 ^ 32) (hb : b < 2 ^ 32) {α : Type} (y z : α) :
    Scalar.select (IntOp.cmpi .eq (BitVec.ofNat 32 a) (BitVec.ofNat 32 b)) y z = if a = b then y else z := by
  by_cases h : a = b
  · rw [if_pos h, StableHlo.Predicate.cmpi_eq_iff.2 (congrArg _ h)]; rfl
  · rw [if_neg h]
    have hne : ¬ IntOp.cmpi .eq (BitVec.ofNat 32 a) (BitVec.ofNat 32 b) = 1#1 := fun hc => h ((word_eq a b ha hb).1 (StableHlo.Predicate.cmpi_eq_iff.1 hc))
    unfold Scalar.select; exact if_neg hne

variable {p q : Fin 32}

theorem chosen (k : Fin 32) (c : IVec S512x1 32) (hc : c (ix2 t 0) = BitVec.ofNat 32 k) :
    shapeCast S512x1 (multiReduction .add [1] S512 (select (cmpi .eq (iota .tc S512x32 32 [1] iota_S512x32_d1_w32)
      (broadcastTo S512x32 c broadcasts_S512x1_S512x32)) (k0_pay10 (F := Ideal) (k0_pay8 x g) (k0_pay9 x g))
      (broadcast S512x32 (Scalar.ofBits .f32 0x00000000#32))) 0x00000000#32 reduces_S512x32_S512 (.inl rfl) rfl) shapeCasts_S512_S512x1 (ix2 t 0)
      = soft (score x g t) k := by
  rw [col_cast, row_sum]
  have hk : ∀ e : Fin 32, select (cmpi .eq (iota .tc S512x32 32 [1] iota_S512x32_d1_w32) (broadcastTo S512x32 c broadcasts_S512x1_S512x32))
      (k0_pay10 (F := Ideal) (k0_pay8 x g) (k0_pay9 x g)) (broadcast S512x32 (Scalar.ofBits .f32 0x00000000#32)) (ix2 t e)
      = if k = e then soft (score x g t) e else 0 := by
    intro e
    show Scalar.select (IntOp.cmpi .eq (iota .tc S512x32 32 [1] iota_S512x32_d1_w32 (ix2 t e)) (broadcastTo S512x32 c broadcasts_S512x1_S512x32 (ix2 t e)))
      (Ideal.div (k0_pay8 (F := Ideal) x g (ix2 t e)) (k0_pay9 (F := Ideal) x g (ix2 t e))) (Ideal.ofBits .f32 0x00000000#32) = _
    rw [col_wide, hc, iota_single_apply, pay8_at, pay9_at, Ideal.ofBits_zero_f32]
    refine (pick (a := e) (b := k) (by have := e.isLt; omega) (by have := k.isLt; omega) _ _).trans ?_
    by_cases h : k = e
    · rw [if_pos h, if_pos (congrArg Fin.val h.symm)]; rfl
    · rw [if_neg h, if_neg fun hv => h (Fin.ext hv.symm)]
  rw [Finset.sum_congr rfl fun e _ => hk e, Finset.sum_eq_single k, if_pos rfl]
  · intro e _ he; exact if_neg he.symm
  · intro h; exact absurd (Finset.mem_univ _) h

theorem pay14_at (hp : i (ix2 t 0) = BitVec.ofNat 32 p) : k0_pay14 (F := Ideal) (k0_pay8 x g) (k0_pay9 x g) i (ix2 t 0) = soft (score x g t) p :=
  chosen x g t p (k0_pay12 (F := Ideal) i) ((pay12_at i t).trans hp)
theorem pay15_at (hq : i (ix2 t 1) = BitVec.ofNat 32 q) : k0_pay15 (F := Ideal) (k0_pay8 x g) (k0_pay9 x g) i (ix2 t 0) = soft (score x g t) q :=
  chosen x g t q (k0_pay13 (F := Ideal) i) ((pay13_at i t).trans hq)

theorem pay16_at (hp : i (ix2 t 0) = BitVec.ofNat 32 p) (hq : i (ix2 t 1) = BitVec.ofNat 32 q) :
    k0_pay16 (F := Ideal) (k0_pay8 x g) (k0_pay9 x g) i (ix2 t 0) = share (score x g t) p q p := by
  show Ideal.div _ (_ + _) = Ideal.div _ (_ + _)
  rw [pay14_at x g i t hp, pay15_at x g i t hq]
theorem pay17_at (hp : i (ix2 t 0) = BitVec.ofNat 32 p) (hq : i (ix2 t 1) = BitVec.ofNat 32 q) :
    k0_pay17 (F := Ideal) (k0_pay8 x g) (k0_pay9 x g) i (ix2 t 0) = share (score x g t) p q q := by
  show Ideal.div _ (_ + _) = Ideal.div _ (_ + _)
  rw [pay14_at x g i t hp, pay15_at x g i t hq]

/-! ## The gates -/

variable (c0 c1 : IVec S512x1 32) (w0 w1 : FVec Ideal S512x1 .f32)

theorem gate_at (hp : c0 (ix2 t 0) = BitVec.ofNat 32 p) (hq : c1 (ix2 t 0) = BitVec.ofNat 32 q) (e : Fin 32) {w : BitVec 32} (hw : w = BitVec.ofNat 32 e) :
    addf (select (cmpi .eq c0 (broadcast S512x1 w)) w0 (broadcast S512x1 (Scalar.ofBits .f32 0x00000000#32)))
      (select (cmpi .eq c1 (broadcast S512x1 w)) w1 (broadcast S512x1 (Scalar.ofBits .f32 0x00000000#32))) (ix2 t 0)
      = gate p q (w0 (ix2 t 0)) (w1 (ix2 t 0)) e := by
  subst hw
  show Scalar.select (IntOp.cmpi .eq (c0 (ix2 t 0)) (BitVec.ofNat 32 e)) (w0 (ix2 t 0)) (Ideal.ofBits .f32 0x00000000#32)
    + Scalar.select (IntOp.cmpi .eq (c1 (ix2 t 0)) (BitVec.ofNat 32 e)) (w1 (ix2 t 0)) (Ideal.ofBits .f32 0x00000000#32) = _
  have hb : ∀ k : Fin 32, (k : ℕ) < 2 ^ 32 := fun k => by have := k.isLt; omega
  rw [hp, hq, pick (hb p) (hb e), pick (hb q) (hb e), Ideal.ofBits_zero_f32]
  simp only [gate, Fin.ext_iff]

theorem pay19_at (hp : c0 (ix2 t 0) = BitVec.ofNat 32 p) (hq : c1 (ix2 t 0) = BitVec.ofNat 32 q) (n : Fin 16) (u : Fin 2) (d : Fin 256) :
    k0_pay19 (F := Ideal) (BitVec.ofNat 32 n) x c0 c1 w0 w1 (ix2 t ⟨256 * u + d, by omega⟩)
      = x (ix2 t d) * gate p q (w0 (ix2 t 0)) (w1 (ix2 t 0)) ⟨2 * n + u, by omega⟩ := by
  have hw : Scalar.muli 2#32 (BitVec.ofNat 32 n) = BitVec.ofNat 32 (2 * n) := by
    show BitVec.ofNat 32 2 * BitVec.ofNat 32 n = _
    rw [← BitVec.ofNat_mul]
  have hw1 : Scalar.addi (Scalar.muli 2#32 (BitVec.ofNat 32 n)) 1#32 = BitVec.ofNat 32 (2 * n + 1) := by
    rw [hw]
    show BitVec.ofNat 32 (2 * n) + BitVec.ofNat 32 1 = _
    rw [← BitVec.ofNat_add]
  unfold k0_pay19
  rw [truncf_apply]
  match u with
  | ⟨0, _⟩ =>
    refine (concatenate_pair_apply_left (t := S512x512) (s₁ := S512x256) (s₂ := S512x256) 1 _ _ _ _ rfl (ix2 t d) ?_).trans ?_
    · intro b; match b with
      | ⟨0, _⟩ => rfl
      | ⟨1, _⟩ => show (d : ℕ) = 256 * 0 + d; omega
    · rw [mulf_apply, col_wide]
      exact congrArg _ (gate_at t c0 c1 w0 w1 hp hq ⟨2 * n + 0, by omega⟩ hw)
  | ⟨1, _⟩ =>
    refine (concatenate_pair_apply_right (t := S512x512) (s₁ := S512x256) (s₂ := S512x256) 1 _ _ _ _ rfl rfl (ix2 t d) ?_ ?_).trans ?_
    · intro b hb; match b with
      | ⟨0, _⟩ => rfl
      | ⟨1, _⟩ => exact absurd rfl hb
    · show (d : ℕ) + 256 = 256 * 1 + d; omega
    · rw [mulf_apply, col_wide]
      exact congrArg _ (gate_at t c0 c1 w0 w1 hp hq ⟨2 * n + 1, by omega⟩ hw1)

end Cert.RingProof
-- ==== Proof.Accum.lean ====
/-
# What the accumulator ends as

The thirty-two additions visit every device once for each half of the columns, and each adds that device's two experts'
gated products. Over the reals the whole is the two chosen experts' products in their shares.
-/
module

public import proofs.«01_k».proof.Proof.Gate

@[expose] public section

noncomputable section

namespace Cert.RingProof

open Cert.KernelIdeal Cert.KernelIdeal.Gen

open Idealize.ShloMosaic
open Idealize.ShloMosaic.ValueIdx

variable (V : Dev nD → Inp Ideal) (c : Dev nD)

/-- The four inputs of a device, and its accumulator, as arrays of numbers. -/
abbrev xOf (v : Inp Ideal) : FVec Ideal S512x256 .f32 := v.x
abbrev gOf (v : Inp Ideal) : FVec Ideal S256x32 .f32 := v.g
abbrev iOf (v : Inp Ideal) : IVec S512x2 32 := v.i
abbrev eOf (v : Inp Ideal) : S2x256x512.Idx → EReal := v.e
abbrev acc (n : ℕ) : S512x512.Idx → EReal := accum V c n

/-! ## The order of the visits -/

theorem aDev_half (n : ℕ) : aDev c n = aDev c (2 * (n / 2)) := by
  unfold aDev; rw [Nat.mul_div_cancel_left _ (by decide : 0 < 2)]
theorem aWord_half (n : ℕ) : aWord c n = aWord c (2 * (n / 2)) := by
  unfold aWord; rw [Nat.mul_div_cancel_left _ (by decide : 0 < 2)]

/-- The kernel's number of the pair is the number of the device whose pair it is. -/
theorem visit_word : ∀ (c : Dev nD) (q : Fin 16), aWord c (2 * q) = BitVec.ofNat 32 (aDev c (2 * q)).val := by decide +kernel
/-- No device is visited twice. -/
theorem visit_inj : ∀ (c : Dev nD) (q q' : Fin 16), aDev c (2 * q) = aDev c (2 * q') → q = q' := by decide +kernel

theorem sum_visits (f : Dev nD → EReal) : ∑ q : Fin 16, f (aDev c (2 * q)) = ∑ k : Dev nD, f k :=
  Fintype.sum_equiv (Equiv.ofBijective (fun q : Fin 16 => aDev c (2 * q)) (Finite.injective_iff_bijective.1 fun q q' h => visit_inj c q q' h)) _ _ fun _ => rfl

/-! ## The weights an addition reads -/

theorem wF_at (v : Inp Ideal) (ix : S2x2x256x256.Idx) (u : Fin 2) (d : Fin 256) (k : Fin 512) (h1 : (ix 1 : ℕ) = u) (h2 : (ix 2 : ℕ) = d)
    (h3 : 256 * (ix 0 : ℕ) + (ix 3 : ℕ) = k) : wF v ix = eOf v (ix3 u d k) := by
  show eOf v (eIdx (ix 0) (ix 1) (ix 2) (ix 3)) = _
  congr 1
  funext a
  match a with
  | ⟨0, _⟩ => exact Fin.ext (by show (ix 1 : ℕ) % 2 = u; omega)
  | ⟨1, _⟩ => exact Fin.ext (by show (ix 2 : ℕ) % 256 = d; omega)
  | ⟨2, _⟩ => exact Fin.ext (by show (256 * (ix 0 : ℕ) + ix 3) % 512 = k; omega)

theorem stack_at {α : Type} (v : S1x2x256x256.Idx → α) (u : Fin 2) (d k : Fin 256) :
    shapeCast S512x256 (shapeCast S2x256x256 v shapeCasts_S1x2x256x256_S2x256x256) shapeCasts_S2x256x256_S512x256 (ix2 ⟨256 * u + d, by omega⟩ k)
      = v (ix4 0 u d k) := by
  refine (shapeCast_apply _ shapeCasts_S2x256x256_S512x256 (ix2 ⟨256 * u + d, by omega⟩ k) (ix3 u d k) ?_).trans ?_
  · rw [Shape.rowMajor_val_three, Shape.rowMajor_val_two]
    show ((u : ℕ) * 256 + d) * 256 + k = (256 * u + d) * 256 + k
    omega
  · refine shapeCast_apply v _ (ix3 u d k) (ix4 0 u d k) ?_
    rw [Shape.rowMajor_val_three, Shape.rowMajor_val_four]
    show ((0 * 2 + (u : ℕ)) * 256 + d) * 256 + k = (u * 256 + d) * 256 + k
    omega

theorem own_at (v : Inp Ideal) (n : ℕ) (u : Fin 2) (d k : Fin 256) :
    hOwn v n (ix2 ⟨256 * u + d, by omega⟩ k) = eOf v (ix3 u d ⟨256 * (n % 2) + k, by omega⟩) := by
  unfold hOwn
  refine (stack_at _ u d k).trans ?_
  show wF v ((ownRect n).emb (ix4 0 u d k)) = _
  have e := emb_unit_val (s := S2x2x256x256) ![n % 2, 0, 0, 0] S1x2x256x256.size (inb_ownHalf n) (ix4 0 u d k)
  refine wF_at v _ u d _ ((e 1).trans (Nat.zero_add _)) ((e 2).trans (Nat.zero_add _)) ?_
  have e0 : (((ownRect n).emb (ix4 0 u d k)) 0 : ℕ) = n % 2 := e 0
  have e3 : (((ownRect n).emb (ix4 0 u d k)) 3 : ℕ) = k := (e 3).trans (Nat.zero_add _)
  rw [e0, e3]

theorem slotV_at (v : Inp Ideal) (j u : Fin 2) (d k : Fin 256) (K : Fin 512) (hK : (K : ℕ) = 256 * j + k) :
    k0_pay22 (F := Ideal) (slotV v) (ix4 j u d k) = eOf v (ix3 u d K) := by
  unfold k0_pay22
  refine (shapeCast_apply (s := S1x2x2x256x256) (slotV v) _ (ix4 j u d k) (ix5 0 j u d k) ?_).trans (wF_at v _ u d K rfl rfl hK.symm)
  rw [Shape.rowMajor_val_four, Shape.rowMajor_val_five]
  show (((0 * 2 + (j : ℕ)) * 2 + u) * 256 + d) * 256 + k = ((j * 2 + u) * 256 + d) * 256 + k
  omega

theorem slot_at (v : Inp Ideal) (n : ℕ) (u : Fin 2) (d k : Fin 256) :
    hSlot v n (ix2 ⟨256 * u + d, by omega⟩ k) = eOf v (ix3 u d ⟨256 * (n % 2) + k, by omega⟩) := by
  have key : ∀ K : Fin 512, (K : ℕ) = 256 * (n % 2) + k → hSlot v n (ix2 ⟨256 * u + d, by omega⟩ k) = eOf v (ix3 u d K) := by
    intro K hK
    have hn : n % 2 < 2 := Nat.mod_lt _ (by decide)
    unfold hSlot
    generalize n % 2 = j at hK hn
    match j, hn with
    | 0, _ =>
      refine (stack_at _ u d k).trans ?_
      refine (extractStridedSlice_apply (s := S2x2x256x256) (t := S1x2x256x256) ![0, 0, 0, 0] _ _ (ix4 0 u d k) (ix4 0 u d k) ?_).trans ?_
      · intro a; match a with | ⟨0, _⟩ => rfl | ⟨1, _⟩ => exact (Nat.zero_add _).symm | ⟨2, _⟩ => exact (Nat.zero_add _).symm | ⟨3, _⟩ => exact (Nat.zero_add _).symm
      · exact slotV_at v 0 u d k K hK
    | 1, _ =>
      refine (stack_at _ u d k).trans ?_
      refine (extractStridedSlice_apply (s := S2x2x256x256) (t := S1x2x256x256) ![1, 0, 0, 0] _ _ (ix4 0 u d k) (ix4 1 u d k) ?_).trans ?_
      · intro a; match a with | ⟨0, _⟩ => rfl | ⟨1, _⟩ => exact (Nat.zero_add _).symm | ⟨2, _⟩ => exact (Nat.zero_add _).symm | ⟨3, _⟩ => exact (Nat.zero_add _).symm
      · exact slotV_at v 1 u d k K hK
  exact key _ rfl

theorem half_at (n : ℕ) (u : Fin 2) (d k : Fin 256) :
    aHalf V c n (ix2 ⟨256 * u + d, by omega⟩ k) = eOf (V (aDev c n)) (ix3 u d ⟨256 * (n % 2) + k, by omega⟩) := by
  unfold aHalf
  generalize hq : n / 2 = q
  match q with
  | 0 =>
    have : aDev c n = c := by unfold aDev; rw [hq]
    rw [this]; exact own_at (V c) n u d k
  | _ + 1 => exact slot_at _ n u d k

/-! ## One addition -/

/-- What the `n`-th addition adds at token `t` and column `k` of its half. -/
def term (n : ℕ) (t : Fin 512) (k : Fin 256) : EReal :=
  ∑ j : Fin 512, (xg V c (aWord c n) (ix2 t j) : EReal) * (aHalf V c n (ix2 j k) : EReal)

theorem pay1_at (a : FVec Ideal S512x512 .bf16) (b : FVec Ideal S512x256 .bf16) (o : FVec Ideal S512x256 .f32) (t : Fin 512) (k : Fin 256) :
    k0_pay1 (F := Ideal) a b o (ix2 t k) = o (ix2 t k) + ∑ j : Fin 512, (a (ix2 t j) : EReal) * (b (ix2 j k) : EReal) := by
  unfold k0_pay1
  rw [addf_apply, shapeCast_self]
  refine congrArg (o (ix2 t k) + ·) ((Ideal.matmul_plain_apply none a b _ t k).trans ?_)
  rw [constant_apply, Ideal.ofBits_zero_f32, zero_add]

theorem oRect_at (n : ℕ) (t : Fin 512) (k : Fin 256) :
    (oRect n).emb (ix2 t k) = ix2 (n0 := 512) (n1 := 512) t ⟨256 * (n % 2) + k, by omega⟩ := by
  have e := emb_unit_val (s := S512x512) ![0, 256 * (n % 2)] S512x256.size (inb_half n) (ix2 t k)
  funext a
  match a with
  | ⟨0, _⟩ => exact Fin.ext ((e 0).trans (Nat.zero_add _))
  | ⟨1, _⟩ => exact Fin.ext (e 1)

theorem accum_succ (n : ℕ) (t col : Fin 512) :
    acc V c (n + 1) (ix2 t col) = acc V c n (ix2 t col)
      + (if (col : ℕ) / 256 = n % 2 then term V c n t ⟨(col : ℕ) % 256, Nat.mod_lt _ (by decide)⟩ else 0) := by
  by_cases h : (col : ℕ) / 256 = n % 2
  · rw [if_pos h]
    have ec : ix2 (n0 := 512) (n1 := 512) t col = (oM.access (oRect n)).emb (ix2 t ⟨(col : ℕ) % 256, Nat.mod_lt _ (by decide)⟩) := by
      refine Eq.trans ?_ (oRect_at n t ⟨(col : ℕ) % 256, Nat.mod_lt _ (by decide)⟩).symm
      congr 1
      exact Fin.ext (by show (col : ℕ) = 256 * (n % 2) + col % 256; omega)
    rw [ec]
    refine (View.write_emb_of_mem (v := oM.access (oRect n)) (Val := Elt Ideal) (accum V c n) _ (Finset.mem_univ _)).trans ?_
    exact pay1_at _ _ _ t _
  · rw [if_neg h, add_zero]
    refine View.write_of_not_mem (v := oM.access (oRect n)) (Val := Elt Ideal) (accum V c n) _ Finset.univ ?_
    intro hm
    obtain ⟨x, -, hx⟩ := Finset.mem_map.mp hm
    have hx1 : (((oRect n).emb x) 1 : ℕ) = col := congrArg (fun i : S512x512.Idx => (i 1 : ℕ)) hx
    have e : (((oRect n).emb x) 1 : ℕ) = 256 * (n % 2) + (x 1 : ℕ) := emb_unit_val (s := S512x512) ![0, 256 * (n % 2)] S512x256.size (inb_half n) x 1
    have hl : (x 1 : ℕ) < 256 := (x 1).isLt
    omega

theorem accum_sum (n : ℕ) (t col : Fin 512) :
    acc V c n (ix2 t col) = ∑ m ∈ Finset.range n, if (col : ℕ) / 256 = m % 2 then term V c m t ⟨(col : ℕ) % 256, Nat.mod_lt _ (by decide)⟩ else 0 := by
  induction n with
  | zero => rw [Finset.sum_range_zero]; exact Ideal.ofBits_zero_f32
  | succ n ih => rw [Finset.sum_range_succ, ← ih]; exact accum_succ V c n t col

theorem accum_half (t col : Fin 512) :
    acc V c 32 (ix2 t col) = ∑ q : Fin 16, term V c (2 * q + (col : ℕ) / 256) t ⟨(col : ℕ) % 256, Nat.mod_lt _ (by decide)⟩ := by
  rw [accum_sum, Finset.sum_range, sum_pairs]
  refine Finset.sum_congr rfl fun q _ => ?_
  have hc : (col : ℕ) / 256 < 2 := by omega
  rw [Fin.sum_univ_two]
  show (if (col : ℕ) / 256 = (2 * (q : ℕ) + 0) % 2 then term V c (2 * q + 0) t _ else 0)
    + (if (col : ℕ) / 256 = (2 * (q : ℕ) + 1) % 2 then term V c (2 * q + 1) t _ else 0) = _
  generalize (col : ℕ) / 256 = h at hc
  match h, hc with
  | 0, _ => rw [if_pos (by omega), if_neg (by omega), add_zero]
  | 1, _ => rw [if_neg (by omega), if_pos (by omega), zero_add]

/-! ## All of them -/

variable (t : Fin 512) {p q : Fin 32}

/-- Expert `e`'s weights: the device that holds it, and its place there. -/
def wAll (e : Fin 32) (d : Fin 256) (k : Fin 512) : EReal := eOf (V ⟨e / 2, by show (e : ℕ) / 2 < 16; omega⟩) (ix3 ⟨e % 2, by omega⟩ d k)

theorem term_at (hp : (iOf (V c)) (ix2 t 0) = BitVec.ofNat 32 p) (hq : (iOf (V c)) (ix2 t 1) = BitVec.ofNat 32 q) (m : Fin 16) (col : Fin 512) :
    term V c (2 * m + (col : ℕ) / 256) t ⟨(col : ℕ) % 256, Nat.mod_lt _ (by decide)⟩
      = ∑ u : Fin 2, ∑ d : Fin 256, ((xOf (V c)) (ix2 t d) * gate p q (share (score (xOf (V c)) (gOf (V c)) t) p q p) (share (score (xOf (V c)) (gOf (V c)) t) p q q)
          ⟨2 * (aDev c (2 * m)).val + u, by have : (aDev c (2 * m)).val < 16 := (aDev c (2 * m)).isLt; omega⟩) * eOf (V (aDev c (2 * m))) (ix3 u d col) := by
  have h2 : (2 * (m : ℕ) + (col : ℕ) / 256) / 2 = m := by omega
  have hD : aDev c (2 * m + (col : ℕ) / 256) = aDev c (2 * m) := by rw [aDev_half, h2]
  have hW : aWord c (2 * m + (col : ℕ) / 256) = BitVec.ofNat 32 (aDev c (2 * m)).val := by rw [aWord_half, h2, visit_word]
  unfold term
  rw [sum_blocks]
  refine Finset.sum_congr rfl fun u _ => Finset.sum_congr rfl fun d _ => ?_
  rw [half_at, hD, hW]
  have hx := pay19_at (k0_pay7 (F := Ideal) (xOf (V c))) t (k0_pay12 (F := Ideal) (iOf (V c))) (k0_pay13 (F := Ideal) (iOf (V c)))
    (k0_pay16 (F := Ideal) (k0_pay8 (xOf (V c)) (gOf (V c))) (k0_pay9 (xOf (V c)) (gOf (V c))) (iOf (V c))) (k0_pay17 (F := Ideal) (k0_pay8 (xOf (V c)) (gOf (V c))) (k0_pay9 (xOf (V c)) (gOf (V c))) (iOf (V c)))
    ((pay12_at (iOf (V c)) t).trans hp) ((pay13_at (iOf (V c)) t).trans hq) (aDev c (2 * m)) u d
  rw [pay16_at (xOf (V c)) (gOf (V c)) (iOf (V c)) t hp hq, pay17_at (xOf (V c)) (gOf (V c)) (iOf (V c)) t hp hq] at hx
  have h7 : k0_pay7 (F := Ideal) (xOf (V c)) = (xOf (V c)) := shapeCast_self _ _
  rw [h7] at hx
  unfold xg
  rw [h7]
  refine congrArg₂ (· * ·) hx ?_
  congr 2
  exact Fin.ext (by show 256 * ((2 * (m : ℕ) + (col : ℕ) / 256) % 2) + (col : ℕ) % 256 = col; omega)

/-- The accumulator at the end: the two chosen experts' products, in their shares. -/
theorem accum_end (hx : ∀ i, IsReal ((xOf (V c)) i)) (hg : ∀ i, IsReal ((gOf (V c)) i))
    (hp : (iOf (V c)) (ix2 t 0) = BitVec.ofNat 32 p) (hq : (iOf (V c)) (ix2 t 1) = BitVec.ofNat 32 q) (col : Fin 512) :
    acc V c 32 (ix2 t col)
      = share (score (xOf (V c)) (gOf (V c)) t) p q p * ∑ d, (xOf (V c)) (ix2 t d) * wAll V p d col
        + share (score (xOf (V c)) (gOf (V c)) t) p q q * ∑ d, (xOf (V c)) (ix2 t d) * wAll V q d col := by
  have hs := score_real hx hg t
  rw [accum_half, Finset.sum_congr rfl fun m _ => term_at V c t hp hq m col]
  have ga := share_good _ hs p q p
  have gb := share_good _ hs p q q
  rw [sum_visits c fun k => ∑ u : Fin 2, ∑ d : Fin 256, ((xOf (V c)) (ix2 t d) * gate p q (share (score (xOf (V c)) (gOf (V c)) t) p q p) (share (score (xOf (V c)) (gOf (V c)) t) p q q)
          ⟨2 * k.val + u, by have : k.val < 16 := k.isLt; omega⟩) * eOf (V k) (ix3 u d col)]
  rw [← gates_sum p q ga.1 ga.2 gb.1 gb.2 (fun d => (xOf (V c)) (ix2 t d)) (fun e d => wAll V e d col), sum_pairs]
  refine Finset.sum_congr rfl fun k _ => Finset.sum_congr rfl fun u _ => Finset.sum_congr rfl fun d _ => ?_
  have hk : (k : ℕ) < 16 := k.isLt
  have e1 : (⟨(2 * (k : ℕ) + u) / 2, by show (2 * (k : ℕ) + u) / 2 < 16; omega⟩ : Dev nD) = k := Fin.ext (by show (2 * (k : ℕ) + u) / 2 = k; omega)
  have e2 : (⟨(2 * (k : ℕ) + u) % 2, by omega⟩ : Fin 2) = u := Fin.ext (by show (2 * (k : ℕ) + u) % 2 = u; omega)
  unfold wAll
  simp only [e1, e2]

end Cert.RingProof
-- ==== Proof.Refer.lean ====
/-
# What the reference computes

The reference's own steps, read at one token and one column: the same scores, the same shares, and the two chosen
experts' products.
-/
module

public import proofs.«01_k».proof.Proof.Mix
public import proofs.«01_k».proof.Proof.Gen.ReferenceIdeal
public import proofs.«01_k».proof.Proof.Gen.ReferenceIdeal.Run
public import Idealize.ShloMosaic.Lib.MatmulPlain
public import Idealize.ShloMosaic.Lib.KernelVsHost
public import Idealize.ShloMosaic.Lib.IdealHost
public import Idealize.ShloMosaic.Lib.ValueIdx
public import Idealize.ShloMosaic.Lib.Pipeline.Value

@[expose] public section

noncomputable section

namespace Cert.RingProof.Refer

open Cert.ReferenceIdeal Cert.ReferenceIdeal.Gen

open Idealize.ShloMosaic
open Idealize.ShloMosaic.ValueIdx

variable (x : FVec Ideal S8192x256 .f32) (g : FVec Ideal S256x32 .f32) (i : IVec S8192x2 32) (w : FVec Ideal S32x256x512 .f32)

/-! ## The steps -/

/-- A column laid over the thirty-two scores. -/
def over (v : FVec Ideal S8192 .f32) : FVec Ideal S8192x32 .f32 :=
  broadcastInDim S8192x32 ![0, 1] bcast_S8192x1_S8192x32_0_1 (broadcastInDim S8192x1 ![0] bcast_S8192_S8192x1_0 v)
def scores : FVec Ideal S8192x32 .f32 := Host.dotGeneral dot_S8192x256_S256x32_S8192x32_1_0_0_1_n_n none x g
def rises : FVec Ideal S8192x32 .f32 :=
  Host.exp (subf (scores x g) (over (Host.reduce FloatOps.maximumf (scores x g) (constant S_ .f32 0xFF800000#32) reducesTo_S8192x32_S8192_d1 h_S_)))
def probs : FVec Ideal S8192x32 .f32 :=
  Host.divf (rises x g) (over (Host.reduceAdd (rises x g) (constant S_ .f32 0x00000000#32) reducesTo_S8192x32_S8192_d1 h_S_))
def gains : FVec Ideal S8192x2 .f32 :=
  Host.gather gather_S8192x32_S8192x2x1_S8192x2_n_1_0_0_1_2_11 (probs x g) (broadcastInDim S8192x2x1 ![0, 1] bcast_S8192x2_S8192x2x1_0_1 i)
def gain0 : FVec Ideal S8192x1 .f32 := extractStridedSlice S8192x1 ![0, 0] (gains x g i) slices_S8192x2_S8192x1_0_0
def gain1 : FVec Ideal S8192x1 .f32 := extractStridedSlice S8192x1 ![0, 1] (gains x g i) slices_S8192x2_S8192x1_0_1
def wide (v : FVec Ideal S8192x1 .f32) : FVec Ideal S8192x512 .f32 := broadcastInDim S8192x512 ![0, 1] bcast_S8192x1_S8192x512_0_1 v
def choice0 : IVec S8192 32 := shapeCast _ (extractStridedSlice S8192x1 ![0, 0] i slices_S8192x2_S8192x1_0_0) shapeCasts_S8192x1_S8192
def choice1 : IVec S8192 32 := shapeCast _ (extractStridedSlice S8192x1 ![0, 1] i slices_S8192x2_S8192x1_0_1) shapeCasts_S8192x1_S8192
def prod (e : IVec S8192 32) : FVec Ideal S8192x512 .f32 :=
  Host.dotGeneral dot_S8192x256_S8192x256x512_S8192x512_1_1_n_2_0_0 none x
    (Host.gather gather_S32x256x512_S8192x1_S8192x256x512_12_0_n_n_0_1_1256512 w (broadcastInDim S8192x1 ![0] bcast_S8192_S8192x1_0 e))
def out : FVec Ideal S8192x512 .f32 :=
  addf (mulf (wide (Host.divf (gain0 x g i) (addf (gain0 x g i) (gain1 x g i)))) (prod x w (choice0 i)))
    (mulf (wide (Host.divf (gain1 x g i) (addf (gain0 x g i) (gain1 x g i)))) (prod x w (choice1 i)))

theorem res_eq (m : (ℓ : Loc nD τ sig) → Buf (Elt Ideal) ℓ) (c : Dev nD) :
    Value.res_out0 (F := Ideal) m c = out (m ((c.tc : Thread nD τ).loc main_arg0)) (m ((c.tc : Thread nD τ).loc main_arg1))
      (m ((c.tc : Thread nD τ).loc main_arg2)) (m ((c.tc : Thread nD τ).loc main_arg3)) := by
  show Value.res_main_v31 (F := Ideal) m c = _
  unfold Value.res_main_v31
  rfl

/-! ## The shares -/

variable (t : Fin 8192)

theorem over_at (v : FVec Ideal S8192 .f32) (e : Fin 32) : over v (ix2 t e) = v (ix1 t) := by
  unfold over
  refine (broadcastInDim_apply (s := S8192x1) (t := S8192x32) ![0, 1] _ _ (ix2 t e) (ix2 t 0) ?_).trans ?_
  · intro a; match a with | ⟨0, _⟩ => rfl | ⟨1, _⟩ => rfl
  · exact broadcastInDim_apply (s := S8192) (t := S8192x1) ![0] _ v (ix2 t 0) (ix1 t) (by intro a; match a with | ⟨0, _⟩ => rfl)

theorem red : S8192x32.Reduces [1] S8192 := by decide
theorem red_lift (k : Fin 32) : red.lift (ix1 t) k = ix2 t k := by
  funext a; match a with | ⟨0, _⟩ => rfl | ⟨1, _⟩ => rfl

theorem scores_at (e : Fin 32) : scores x g (ix2 t e) = score x g t e := by
  unfold scores
  rw [← matmul_zero_eq_dotGeneral]
  refine (Ideal.matmul_plain_apply none x g _ t e).trans ?_
  rw [constant_apply, Ideal.ofBits_zero_f32, zero_add]
  rfl

theorem max_at : Host.reduce FloatOps.maximumf (scores x g) (constant S_ .f32 0xFF800000#32) reducesTo_S8192x32_S8192_d1 h_S_ (ix1 t) = top (score x g t) := by
  refine (congrFun (hostReduce_maximumf_eq_multiReduction (u := S_) (scores x g) 0xFF800000#32 reducesTo_S8192x32_S8192_d1 h_S_ red (.inl rfl) rfl) (ix1 t)).trans ?_
  refine (Ideal.multiReduction_maximumf_single (scores x g) _ _ _ _ _).trans ?_
  unfold top
  congr 1
  funext k
  exact (congrArg (scores x g) (red_lift t k)).trans (scores_at x g t k)

theorem rises_at (e : Fin 32) : rises x g (ix2 t e) = rise (score x g t) e := by
  show Ideal.exp (scores x g (ix2 t e) - over _ (ix2 t e)) = _
  rw [over_at, scores_at, max_at]
  rfl

theorem sum_at : Host.reduceAdd (rises x g) (constant S_ .f32 0x00000000#32) reducesTo_S8192x32_S8192_d1 h_S_ (ix1 t) = ∑ k, rise (score x g t) k := by
  rw [hostReduceAdd_apply, Ideal.hostReduceAdd_single _ red, constant_apply, Ideal.ofBits_zero_f32, zero_add]
  exact Finset.sum_congr rfl fun k _ => (congrArg (rises x g) (red_lift t k)).trans (rises_at x g t k)

theorem probs_at (e : Fin 32) : probs x g (ix2 t e) = soft (score x g t) e := by
  unfold probs
  rw [hostDivf_apply, over_at, rises_at, sum_at]
  rfl

/-- A small number read back as the integer it is, and kept below thirty-two. -/
theorem clamp (p : Fin 32) : min (BitVec.ofNat 32 p).toInt.toNat 31 = p := by revert p; decide

theorem gains_at (k : Fin 2) {p : Fin 32} (hp : i (ix2 t k) = BitVec.ofNat 32 p) : gains x g i (ix2 t k) = soft (score x g t) p := by
  refine Eq.trans ?_ (probs_at x g t p)
  unfold gains Host.gather
  congr 1
  funext a
  refine Fin.ext ?_
  show GatherDims.start gather_S8192x32_S8192x2x1_S8192x2_n_1_0_0_1_2_11 (ix2 t k) _ a
    + GatherDims.batchCoord gather_S8192x32_S8192x2x1_S8192x2_n_1_0_0_1_2_11 (ix2 t k) a
    + GatherDims.offCoord gather_S8192x32_S8192x2x1_S8192x2_n_1_0_0_1_2_11 (ix2 t k) a = _
  have ha : a = 0 ∨ a = 1 := by match a with | ⟨0, _⟩ => exact Or.inl rfl | ⟨1, _⟩ => exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S8192x32_S8192x2x1_S8192x2_n_1_0_0_1_2_11.operandBatchingDims from List.mem_singleton.mpr rfl)]
    rfl
  · rw [GatherDims.batchCoord_eq_zero _ _ _ (show (1 : Fin 2) ∉ gather_S8192x32_S8192x2x1_S8192x2_n_1_0_0_1_2_11.operandBatchingDims by decide),
      GatherDims.offCoord_eq_zero _ _ _ (fun h => ((GatherDims.mem_sKept _ _).mp h).1 (List.mem_singleton.mpr rfl)), Nat.add_zero]
    unfold GatherDims.start
    rw [dif_pos (show (1 : Fin 2) ∈ gather_S8192x32_S8192x2x1_S8192x2_n_1_0_0_1_2_11.startIndexMap from List.mem_singleton.mpr rfl)]
    refine Eq.trans ?_ (clamp p)
    refine congrArg (fun b : BitVec 32 => min b.toInt.toNat 31) ?_
    refine (broadcastInDim_apply (s := S8192x2) (t := S8192x2x1) ![0, 1] _ i _ (ix2 t k) ?_).trans hp
    intro b; match b with | ⟨0, _⟩ => rfl | ⟨1, _⟩ => rfl

variable {p q : Fin 32}

theorem gain0_at (hp : i (ix2 t 0) = BitVec.ofNat 32 p) : gain0 x g i (ix2 t 0) = soft (score x g t) p :=
  (extractStridedSlice_apply (s := S8192x2) (t := S8192x1) ![0, 0] _ _ (ix2 t 0) (ix2 t 0) (by
    intro a; match a with | ⟨0, _⟩ => exact (Nat.zero_add _).symm | ⟨1, _⟩ => rfl)).trans (gains_at x g i t 0 hp)
theorem gain1_at (hq : i (ix2 t 1) = BitVec.ofNat 32 q) : gain1 x g i (ix2 t 0) = soft (score x g t) q :=
  (extractStridedSlice_apply (s := S8192x2) (t := S8192x1) ![0, 1] _ _ (ix2 t 0) (ix2 t 1) (by
    intro a; match a with | ⟨0, _⟩ => exact (Nat.zero_add _).symm | ⟨1, _⟩ => rfl)).trans (gains_at x g i t 1 hq)

theorem wide_at (v : FVec Ideal S8192x1 .f32) (k : Fin 512) : wide v (ix2 t k) = v (ix2 t 0) :=
  broadcastInDim_apply (s := S8192x1) (t := S8192x512) ![0, 1] _ v (ix2 t k) (ix2 t 0) (by intro a; match a with | ⟨0, _⟩ => rfl | ⟨1, _⟩ => rfl)

/-! ## The products -/

theorem choice_cast (v : IVec S8192x1 32) : shapeCast S8192 v shapeCasts_S8192x1_S8192 (ix1 t) = v (ix2 t 0) := by
  refine shapeCast_apply v _ (ix1 t) (ix2 t 0) ?_
  rw [Shape.rowMajor_val_one, Shape.rowMajor_val_two]
  show (t : ℕ) * 1 + 0 = t
  omega
theorem choice0_at : choice0 i (ix1 t) = i (ix2 t 0) :=
  (choice_cast t _).trans (extractStridedSlice_apply (s := S8192x2) (t := S8192x1) ![0, 0] i _ (ix2 t 0) (ix2 t 0) (by
    intro a; match a with | ⟨0, _⟩ => exact (Nat.zero_add _).symm | ⟨1, _⟩ => rfl))
theorem choice1_at : choice1 i (ix1 t) = i (ix2 t 1) :=
  (choice_cast t _).trans (extractStridedSlice_apply (s := S8192x2) (t := S8192x1) ![0, 1] i _ (ix2 t 0) (ix2 t 1) (by
    intro a; match a with | ⟨0, _⟩ => exact (Nat.zero_add _).symm | ⟨1, _⟩ => rfl))

theorem take_at (e : IVec S8192 32) (he : e (ix1 t) = BitVec.ofNat 32 p) (d : Fin 256) (k : Fin 512) :
    Host.gather gather_S32x256x512_S8192x1_S8192x256x512_12_0_n_n_0_1_1256512 w (broadcastInDim S8192x1 ![0] bcast_S8192_S8192x1_0 e) (ix3 t d k)
      = w (ix3 p d k) := by
  unfold Host.gather
  congr 1
  funext a
  refine Fin.ext ?_
  show GatherDims.start gather_S32x256x512_S8192x1_S8192x256x512_12_0_n_n_0_1_1256512 (ix3 t d k) _ a
    + GatherDims.batchCoord gather_S32x256x512_S8192x1_S8192x256x512_12_0_n_n_0_1_1256512 (ix3 t d k) a
    + GatherDims.offCoord gather_S32x256x512_S8192x1_S8192x256x512_12_0_n_n_0_1_1256512 (ix3 t d k) a = _
  rw [GatherDims.batchCoord_eq_zero _ _ _ List.not_mem_nil, Nat.add_zero]
  have ha : a = 0 ∨ a = 1 ∨ a = 2 := by match a with | ⟨0, _⟩ => exact Or.inl rfl | ⟨1, _⟩ => exact Or.inr (Or.inl rfl) | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x256x512_S8192x1_S8192x256x512_12_0_n_n_0_1_1256512.startIndexMap from List.mem_singleton.mpr rfl)]
    refine Eq.trans ?_ (clamp p)
    refine congrArg (fun b : BitVec 32 => min b.toInt.toNat 31) ?_
    refine (broadcastInDim_apply (s := S8192) (t := S8192x1) ![0] _ e _ (ix1 t) ?_).trans he
    intro b; match b with | ⟨0, _⟩ => rfl
  · unfold GatherDims.start GatherDims.offCoord
    rw [dif_neg (show (1 : Fin 3) ∉ gather_S32x256x512_S8192x1_S8192x256x512_12_0_n_n_0_1_1256512.startIndexMap by decide), dif_pos (show (1 : Fin 3) ∈ gather_S32x256x512_S8192x1_S8192x256x512_12_0_n_n_0_1_1256512.sKept by decide), Nat.zero_add]
    rfl
  · unfold GatherDims.start GatherDims.offCoord
    rw [dif_neg (show (2 : Fin 3) ∉ gather_S32x256x512_S8192x1_S8192x256x512_12_0_n_n_0_1_1256512.startIndexMap by decide), dif_pos (show (2 : Fin 3) ∈ gather_S32x256x512_S8192x1_S8192x256x512_12_0_n_n_0_1_1256512.sKept by decide), Nat.zero_add]
    rfl

theorem prod_at (e : IVec S8192 32) (he : e (ix1 t) = BitVec.ofNat 32 p) (k : Fin 512) :
    prod x w e (ix2 t k) = ∑ d : Fin 256, x (ix2 t d) * w (ix3 p d k) := by
  unfold prod
  simp only [Host.dotGeneral]
  rw [Ideal.dotGeneral_apply]
  have hr : (dot_S8192x256_S8192x256x512_S8192x512_1_1_n_2_0_0).contr.rank = 1 := rfl
  have hs : (dot_S8192x256_S8192x256x512_S8192x512_1_1_n_2_0_0).contr.size ⟨0, by rw [hr]; exact Nat.one_pos⟩ = 256 := rfl
  rw [← Equiv.sum_comp (contrEquiv1 dot_S8192x256_S8192x256x512_S8192x512_1_1_n_2_0_0 256 hr hs).symm]
  refine Finset.sum_congr rfl fun d _ => ?_
  have hk := contrEquiv1_symm_val dot_S8192x256_S8192x256x512_S8192x512_1_1_n_2_0_0 256 hr hs d
  have el : (dot_S8192x256_S8192x256x512_S8192x512_1_1_n_2_0_0).lhsIdx (ix2 t k) ((contrEquiv1 _ 256 hr hs).symm d) = ix2 t d := by
    funext a; apply Fin.ext
    match a with
    | ⟨0, _⟩ => rfl
    | ⟨1, _⟩ => exact hk
  have er : (dot_S8192x256_S8192x256x512_S8192x512_1_1_n_2_0_0).rhsIdx (ix2 t k) ((contrEquiv1 _ 256 hr hs).symm d) = ix3 t d k := by
    funext a; apply Fin.ext
    match a with
    | ⟨0, _⟩ => rfl
    | ⟨1, _⟩ => exact hk
    | ⟨2, _⟩ => rfl
  rw [el, er, take_at w t e he d k]

/-- The reference's result: the two chosen experts' products, in their shares. -/
theorem out_at (hp : i (ix2 t 0) = BitVec.ofNat 32 p) (hq : i (ix2 t 1) = BitVec.ofNat 32 q) (k : Fin 512) :
    out x g i w (ix2 t k) = share (score x g t) p q p * ∑ d : Fin 256, x (ix2 t d) * w (ix3 p d k)
      + share (score x g t) p q q * ∑ d : Fin 256, x (ix2 t d) * w (ix3 q d k) := by
  unfold out
  rw [addf_apply, mulf_apply, mulf_apply, wide_at, wide_at, prod_at x w t _ ((choice0_at i t).trans hp), prod_at x w t _ ((choice1_at i t).trans hq)]
  rw [hostDivf_apply, hostDivf_apply, addf_apply, gain0_at x g i t hp, gain1_at x g i t hq]
  rfl

end Cert.RingProof.Refer
-- ==== Proof.Value.lean ====
/-
# The kernel's array is the reference's block

The two programs' results meet: what a device's accumulator ends as is that device's block of the reference's result.
-/
module

public import proofs.«01_k».proof.Defs
public import proofs.«01_k».proof.Proof.Accum
public import proofs.«01_k».proof.Proof.Refer
public import proofs.«01_k».proof.Proof.Run
public import Idealize.ShloMosaic.Lib.Pipeline.ValueKit.Geometry
public import Idealize.ShloMosaic.Lib.Layout

@[expose] public section

noncomputable section

namespace Cert.RingProof

open Cert.KernelIdeal Cert.KernelIdeal.Gen

open Idealize.ShloMosaic
open Idealize.ShloMosaic.TcCoe
open Idealize.ShloMosaic.ValueIdx
open Idealize.ShloMosaic.Pipeline (Dat Cfg Window)
open Idealize.SL.Sem

variable (m : (ℓ : Loc nD τ sig) → Buf (Elt Ideal) ℓ) (c : Dev nD)

/-! ## The staged inputs are the arrays -/

theorem inp_x : (inp m c).x = m ((c : Thread nD τ).loc main_arg0) := by
  funext i
  show m ((c : Thread nD τ).loc main_arg0) ((win0_0.rect t0_0).emb i) = _
  congr 1; funext a; exact Fin.ext (Window.rect_emb_val_of_index_zero win0_0 t0_0 a (by revert a; decide +kernel) i)
theorem inp_g : (inp m c).g = m ((c : Thread nD τ).loc main_arg1) := by
  funext i
  show m ((c : Thread nD τ).loc main_arg1) ((win0_1.rect t0_0).emb i) = _
  congr 1; funext a; exact Fin.ext (Window.rect_emb_val_of_index_zero win0_1 t0_0 a (by revert a; decide +kernel) i)
theorem inp_i : (inp m c).i = m ((c : Thread nD τ).loc main_arg2) := by
  funext i
  show m ((c : Thread nD τ).loc main_arg2) ((win0_2.rect t0_0).emb i) = _
  congr 1; funext a; exact Fin.ext (Window.rect_emb_val_of_index_zero win0_2 t0_0 a (by revert a; decide +kernel) i)
theorem inp_e : (inp m c).e = m ((c : Thread nD τ).loc main_arg3) := by
  funext i
  show m ((c : Thread nD τ).loc main_arg3) ((win0_3.rect t0_0).emb i) = _
  congr 1; funext a; exact Fin.ext (Window.rect_emb_val_of_index_zero win0_3 t0_0 a (by revert a; decide +kernel) i)

/-- The result array ends as the accumulator did. -/
theorem final_eq : finalA m c 4 = accum (inp m) c 32 := by
  funext i
  exact Dat.arrAt_emb_eq_after_last (dats m 0 c) 4 t0_0 (by decide +kernel) i

/-! ## What the precondition gives -/

section Pre

variable [Cert.Pre_usable_KernelIdeal.Facts]

theorem real_of_olt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine IsReal.of_abs ?_
  by_contra hn
  simp [Ideal.cmp, hn] at h

/-- An index in range is one of the thirty-two. -/
theorem expert_of_range {b : BitVec 32} (h : IntOp.andi (IntOp.cmpi .sge b 0#32) (IntOp.cmpi .slt b 32#32) = 1#1) :
    ∃ p : Fin 32, b = BitVec.ofNat 32 p := by
  have hb : (0#32).sle b = true ∧ b.slt 32#32 = true := by
    change BitVec.ofBool ((0#32).sle b) &&& BitVec.ofBool (b.slt 32#32) = 1#1 at h
    generalize (0#32).sle b = u at h ⊢
    generalize b.slt 32#32 = v at h ⊢
    revert u v; decide
  rw [BitVec.sle_iff_toInt_le, BitVec.slt_iff_toInt_lt] at hb
  have h0 : (0#32).toInt = 0 := by decide
  have h32 : (32#32).toInt = 32 := by decide
  rw [h0, h32] at hb
  have hn := BitVec.toInt_eq_toNat_cond b
  have hl : b.toNat < 32 := by split at hn <;> omega
  exact ⟨⟨b.toNat, hl⟩, by simp⟩

variable {m} (h : Cert.Pre_KernelIdeal_usable_KernelIdeal m)
include h

theorem pre_x (i : S512x256.Idx) : IsReal (xOf (inp m c) i) := by
  rw [xOf, inp_x]
  exact real_of_olt (congrFun (h c).1 i)
theorem pre_g (i : S256x32.Idx) : IsReal (gOf (inp m c) i) := by
  rw [gOf, inp_g]
  exact real_of_olt (congrFun (h c).2.1 i)
theorem pre_i (i : S512x2.Idx) : ∃ p : Fin 32, iOf (inp m c) i = BitVec.ofNat 32 p := by
  rw [iOf, inp_i]
  exact expert_of_range (congrFun (h c).2.2 i)

end Pre

/-! ## The two results meet -/

section Meet

variable (X : FVec Ideal ⟨2, ![8192, 256]⟩ .f32) (R : FVec Ideal ⟨2, ![256, 32]⟩ .f32) (I : IVec ⟨2, ![8192, 2]⟩ 32) (W : FVec Ideal ⟨3, ![32, 256, 512]⟩ .f32)

theorem tiles_x : Layout.Tiles ⟨2, ![512, 256]⟩ ⟨2, ![8192, 256]⟩ 0 16 := by decide
theorem tiles_i : Layout.Tiles ⟨2, ![512, 2]⟩ ⟨2, ![8192, 2]⟩ 0 16 := by decide
theorem tiles_w : Layout.Tiles ⟨3, ![2, 256, 512]⟩ ⟨3, ![32, 256, 512]⟩ 0 16 := by decide
theorem tiles_o : Layout.Tiles ⟨2, ![512, 512]⟩ ⟨2, ![8192, 512]⟩ 0 16 := by decide

/-- Device `c`'s token `t` among all. -/
def rowOf (t : Fin 512) : Fin 8192 := ⟨512 * c + t, by have : (c : ℕ) < 16 := c.isLt; omega⟩

theorem block_row {α : Type} {n : ℕ} (v : (⟨2, ![8192, n]⟩ : Shape).Idx → α) (hT : Layout.Tiles ⟨2, ![512, n]⟩ ⟨2, ![8192, n]⟩ 0 16) (t : Fin 512) (k : Fin n) :
    Layout.block ⟨2, ![512, n]⟩ ⟨2, ![8192, n]⟩ 0 16 c v hT (ix2 t k) = v (ix2 (rowOf c t) k) := by
  rw [Layout.block_apply]
  congr 1
  funext a
  match a with
  | ⟨0, _⟩ => exact Fin.ext (by show (c : ℕ) * 512 + t = 512 * c + t; omega)
  | ⟨1, _⟩ => rfl

variable (hX : ∀ c, xOf (inp m c) = Layout.block ⟨2, ![512, 256]⟩ ⟨2, ![8192, 256]⟩ 0 16 c X tiles_x)
  (hR : ∀ c, gOf (inp m c) = R)
  (hI : ∀ c, iOf (inp m c) = Layout.block ⟨2, ![512, 2]⟩ ⟨2, ![8192, 2]⟩ 0 16 c I tiles_i)
  (hW : ∀ c, eOf (inp m c) = Layout.block ⟨3, ![2, 256, 512]⟩ ⟨3, ![32, 256, 512]⟩ 0 16 c W tiles_w)

include hW in
theorem wAll_eq (e : Fin 32) (d : Fin 256) (k : Fin 512) : wAll (inp m) e d k = W (ix3 e d k) := by
  unfold wAll
  rw [hW, Layout.block_apply]
  congr 1
  funext a
  match a with
  | ⟨0, _⟩ => exact Fin.ext (by show (e : ℕ) / 2 * 2 + e % 2 = e; omega)
  | ⟨1, _⟩ => rfl
  | ⟨2, _⟩ => rfl

include hX hR hI hW in
theorem meet [Cert.Pre_usable_KernelIdeal.Facts] (h : Cert.Pre_KernelIdeal_usable_KernelIdeal m) :
    acc (inp m) c 32 = Layout.block ⟨2, ![512, 512]⟩ ⟨2, ![8192, 512]⟩ 0 16 c (Refer.out X R I W) tiles_o := by
  funext ix
  obtain ⟨t, k, rfl⟩ : ∃ t k : Fin 512, ix = ix2 t k := ⟨ix 0, ix 1, eq_ix2 ix⟩
  obtain ⟨p, hp⟩ := pre_i c h (ix2 t 0)
  obtain ⟨q, hq⟩ := pre_i c h (ix2 t 1)
  have hp' : I (ix2 (rowOf c t) 0) = BitVec.ofNat 32 p := by rw [← hp, hI, block_row]
  have hq' : I (ix2 (rowOf c t) 1) = BitVec.ofNat 32 q := by rw [← hq, hI, block_row]
  have hx : ∀ d : Fin 256, xOf (inp m c) (ix2 t d) = X (ix2 (rowOf c t) d) := fun d => by rw [hX, block_row]
  have hs : score (xOf (inp m c)) (gOf (inp m c)) t = score X R (rowOf c t) := by
    funext e; unfold score
    exact Finset.sum_congr rfl fun d _ => by rw [hx, hR]
  rw [block_row]
  refine (accum_end (inp m) c t (pre_x c h) (pre_g c h) hp hq k).trans ?_
  rw [Refer.out_at X R I W (rowOf c t) hp' hq' k, hs]
  simp only [hx, wAll_eq m W hW]

end Meet

end Cert.RingProof
-- ==== Proof.lean ====
/-
# The claims

The claims of the certificate. The kernel's frame and its idealization's are one run (`Proof.Run`), read at the machine's
words and over the reals; over the reals the run's result is the reference's (`Proof.Value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

section

variable {F : FTy → Type} [FloatOps F]

local instance : Cert.Kernel.Facts := Cert.Kernel.Gen.facts

set_option maxRecDepth 20000 in
/-- The kernel and its idealization have one text: their bodies agree … -/
theorem body_same (a) : @Cert.Kernel.defs₀ F _ _ .tc 0 a = @Cert.KernelIdeal.defs₀ F _ _ .tc 0 a := rfl

/-- … their body tables … -/
theorem table_same : @Cert.Kernel.defs₀ F _ _ = @Cert.KernelIdeal.defs₀ F _ _ :=
  congrArg Defs.onTc (funext fun l => match l with
    | 0 => funext fun a => body_same a
    | ⟨_ + 1, h⟩ => absurd h (Nat.not_lt.2 (Nat.le_add_left _ _)))

/-- … and their procedures. -/
theorem defs_same : @Cert.Kernel.defs F _ _ = @Cert.KernelIdeal.defs F _ _ :=
  congrArg (Pipeline.defs Cert.KernelIdeal.pcfgs) table_same

end

theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
    (θ_run (Cert.KernelIdeal.defs (F := Bits)) _ _).mono (fun _ h => ⟨fun c => ⟨(h.1 c).1, (h.1 c).2.1, (h.1 c).2.2.1, (h.1 c).2.2.2.1⟩, h.2⟩)
      (Cert.RingProof.run_arrays (F := Bits) m ρ)
  rw [defs_same]
  exact h

theorem frame_ideal : Cert.quiescent_KernelIdeal := fun m ρ _ =>
  (θ_run (Cert.KernelIdeal.defs (F := Ideal)) _ _).mono (fun _ h => ⟨fun c => ⟨(h.1 c).1, (h.1 c).2.1, (h.1 c).2.2.1, (h.1 c).2.2.2.1⟩, h.2⟩)
    (Cert.RingProof.run_arrays (F := Ideal) m ρ)

theorem frame_reference : Cert.quiescent_ReferenceIdeal := fun m ρ _ =>
  (θ_run (Cert.ReferenceIdeal.defs (F := Ideal)) _ _).mono (fun _ h => ⟨fun c => (h c).2, by
    funext g
    obtain ⟨_, ⟨i⟩ | ⟨i⟩⟩ := g <;> exact i.elim0⟩)
    (Cert.ReferenceIdeal.Value.run (F := Ideal) m ρ)

/-- The predicate's own shape facts, on a device's blocks and on the whole arrays. -/
theorem pre_kernel_facts : Cert.Pre_usable_KernelIdeal.Facts := ⟨by decide, by decide, by decide⟩
theorem pre_reference_facts : Cert.Pre_usable_ReferenceIdeal.Facts := ⟨by decide, by decide, by decide⟩

section

local instance : Cert.Pre_usable_KernelIdeal.Facts := pre_kernel_facts
local instance : Cert.Pre_usable_ReferenceIdeal.Facts := pre_reference_facts

theorem frame_ideal_usable : Cert.quiescent_KernelIdeal_pre_usable_KernelIdeal := fun m ρ _ => frame_ideal m ρ trivial
theorem frame_reference_usable : Cert.quiescent_ReferenceIdeal_pre_usable_ReferenceIdeal := fun m ρ _ => frame_reference m ρ trivial

/-- Over the reals every device ends with its block of the reference's result. -/
theorem value : Cert.algebraic_KernelIdeal_ReferenceIdeal_pre_usable_KernelIdeal := fun m ρ m' ρ' hpre hargs => by
  refine ⟨Cert.ReferenceIdeal.Value.res_out0 (F := Ideal) m' 0, ?_, ?_⟩
  · refine (θ_run (Cert.KernelIdeal.defs (F := Ideal)) _ _).mono (fun _ h c => ⟨?_, (h.1 c).1, (h.1 c).2.1, (h.1 c).2.2.1, (h.1 c).2.2.2.1⟩)
      (Cert.RingProof.run_arrays (F := Ideal) m ρ)
    refine (h.1 c).2.2.2.2.trans ((Cert.RingProof.final_eq m c).trans ?_)
    rw [Cert.RingProof.Refer.res_eq]
    exact Cert.RingProof.meet m c _ _ _ _ (fun c => (Cert.RingProof.inp_x m c).trans (hargs c).1) (fun c => (Cert.RingProof.inp_g m c).trans (hargs c).2.1)
      (fun c => (Cert.RingProof.inp_i m c).trans (hargs c).2.2.1) (fun c => (Cert.RingProof.inp_e m c).trans (hargs c).2.2.2) hpre
  · exact (θ_run (Cert.ReferenceIdeal.defs (F := Ideal)) _ _).mono (fun _ h => h 0) (Cert.ReferenceIdeal.Value.run (F := Ideal) m' ρ')

end

theorem claim : Cert.Claim := ⟨Cert.Kernel.Gen.facts, Cert.KernelIdeal.Gen.facts, Cert.ReferenceIdeal.Gen.facts, pre_kernel_facts, pre_reference_facts,
  frame_kernel, frame_ideal, frame_ideal_usable, frame_reference, frame_reference_usable, trivial, value⟩

end Cert.Proof

end
